-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixFfn (m : (ℓ : Loc Cert.MixFfn.nD Cert.MixFfn.τ Cert.MixFfn.sig) → Buf (Elt Bits) ℓ) : Prop :=
  True

def Pre_MixFfnIdeal (m : (ℓ : Loc Cert.MixFfnIdeal.nD Cert.MixFfnIdeal.τ Cert.MixFfnIdeal.sig) → Buf (Elt Ideal) ℓ) : Prop :=
  True

def Pre_MixFfnRefIdeal (m : (ℓ : Loc Cert.MixFfnRefIdeal.nD Cert.MixFfnRefIdeal.τ Cert.MixFfnRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MixFfn [hMixFfn : Cert.MixFfn.Facts] : Prop :=
  ∀ (m : (ℓ : Loc Cert.MixFfn.nD Cert.MixFfn.τ Cert.MixFfn.sig) → Buf (Elt Bits) ℓ) (g : Dev Cert.MixFfn.nD → PrngReg), Pre_MixFfn m →
    θ_run (Cert.MixFfn.defs (F := Bits)) (onTc (τ := Cert.MixFfn.τ) (Cert.MixFfn.main (F := Bits))) ⟨m, fun _ => 0, g⟩ (fun r => (∀ c : Dev Cert.MixFfn.nD,
      r.2.mem ((c.tc : Thread Cert.MixFfn.nD Cert.MixFfn.τ).loc Cert.MixFfn.main_arg0) = m ((c.tc : Thread Cert.MixFfn.nD Cert.MixFfn.τ).loc Cert.MixFfn.main_arg0)
      ∧ r.2.mem ((c.tc : Thread Cert.MixFfn.nD Cert.MixFfn.τ).loc Cert.MixFfn.main_arg1) = m ((c.tc : Thread Cert.MixFfn.nD Cert.MixFfn.τ).loc Cert.MixFfn.main_arg1)
      ∧ r.2.mem ((c.tc : Thread Cert.MixFfn.nD Cert.MixFfn.τ).loc Cert.MixFfn.main_arg2) = m ((c.tc : Thread Cert.MixFfn.nD Cert.MixFfn.τ).loc Cert.MixFfn.main_arg2)
      ∧ r.2.mem ((c.tc : Thread Cert.MixFfn.nD Cert.MixFfn.τ).loc Cert.MixFfn.main_arg3) = m ((c.tc : Thread Cert.MixFfn.nD Cert.MixFfn.τ).loc Cert.MixFfn.main_arg3)
      ∧ r.2.mem ((c.tc : Thread Cert.MixFfn.nD Cert.MixFfn.τ).loc Cert.MixFfn.main_arg4) = m ((c.tc : Thread Cert.MixFfn.nD Cert.MixFfn.τ).loc Cert.MixFfn.main_arg4)
      ∧ r.2.mem ((c.tc : Thread Cert.MixFfn.nD Cert.MixFfn.τ).loc Cert.MixFfn.main_arg5) = m ((c.tc : Thread Cert.MixFfn.nD Cert.MixFfn.τ).loc Cert.MixFfn.main_arg5)
      ∧ r.2.mem ((c.tc : Thread Cert.MixFfn.nD Cert.MixFfn.τ).loc Cert.MixFfn.main_arg6) = m ((c.tc : Thread Cert.MixFfn.nD Cert.MixFfn.τ).loc Cert.MixFfn.main_arg6)
      ∧ r.2.mem ((c.tc : Thread Cert.MixFfn.nD Cert.MixFfn.τ).loc Cert.MixFfn.main_arg7) = m ((c.tc : Thread Cert.MixFfn.nD Cert.MixFfn.τ).loc Cert.MixFfn.main_arg7)
      ∧ r.2.mem ((c.tc : Thread Cert.MixFfn.nD Cert.MixFfn.τ).loc Cert.MixFfn.main_arg8) = m ((c.tc : Thread Cert.MixFfn.nD Cert.MixFfn.τ).loc Cert.MixFfn.main_arg8)
      ∧ r.2.mem ((c.tc : Thread Cert.MixFfn.nD Cert.MixFfn.τ).loc Cert.MixFfn.main_arg9) = m ((c.tc : Thread Cert.MixFfn.nD Cert.MixFfn.τ).loc Cert.MixFfn.main_arg9)
      ∧ r.2.mem ((c.tc : Thread Cert.MixFfn.nD Cert.MixFfn.τ).loc Cert.MixFfn.main_arg10) = m ((c.tc : Thread Cert.MixFfn.nD Cert.MixFfn.τ).loc Cert.MixFfn.main_arg10)
      ∧ r.2.mem ((c.tc : Thread Cert.MixFfn.nD Cert.MixFfn.τ).loc Cert.MixFfn.main_arg11) = m ((c.tc : Thread Cert.MixFfn.nD Cert.MixFfn.τ).loc Cert.MixFfn.main_arg11))
      ∧ r.2.sem = fun _ => 0)

def quiescent_MixFfnIdeal [hMixFfnIdeal : Cert.MixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg), Pre_MixFfnIdeal m →
    θ_run (Cert.MixFfnIdeal.defs (F := Ideal)) (onTc (τ := Cert.MixFfnIdeal.τ) (Cert.MixFfnIdeal.main (F := Ideal))) ⟨m, fun _ => 0, g⟩ (fun r => (∀ c : Dev Cert.MixFfnIdeal.nD,
      r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
      ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
      ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
      ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
      ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
      ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
      ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
      ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
      ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8)
      ∧ r.2.mem ((c.tc : Thread Cert.MixFfnIdeal.nD Cert.MixFfnIdeal.τ).loc Cert.MixFfnIdeal.main_arg9) = m ((c.tc : Thread Cert.MixFfnIdeal.nD Cert.MixFfnIdeal.τ).loc Cert.MixFfnIdeal.main_arg9)
      ∧ r.2.mem ((c.tc : Thread Cert.MixFfnIdeal.nD Cert.MixFfnIdeal.τ).loc Cert.MixFfnIdeal.main_arg10) = m ((c.tc : Thread Cert.MixFfnIdeal.nD Cert.MixFfnIdeal.τ).loc Cert.MixFfnIdeal.main_arg10)
      ∧ r.2.mem ((c.tc : Thread Cert.MixFfnIdeal.nD Cert.MixFfnIdeal.τ).loc Cert.MixFfnIdeal.main_arg11) = m ((c.tc : Thread Cert.MixFfnIdeal.nD Cert.MixFfnIdeal.τ).loc Cert.MixFfnIdeal.main_arg11))
      ∧ r.2.sem = fun _ => 0)

def quiescent_MixFfnRefIdeal [hMixFfnRefIdeal : Cert.MixFfnRefIdeal.Facts] : Prop :=
  ∀ (m : (ℓ : Loc Cert.MixFfnRefIdeal.nD Cert.MixFfnRefIdeal.τ Cert.MixFfnRefIdeal.sig) → Buf (Elt Ideal) ℓ) (g : Dev Cert.MixFfnRefIdeal.nD → PrngReg), Pre_MixFfnRefIdeal m →
    θ_run (Cert.MixFfnRefIdeal.defs (F := Ideal)) (onTc (τ := Cert.MixFfnRefIdeal.τ) (Cert.MixFfnRefIdeal.main (F := Ideal))) ⟨m, fun _ => 0, g⟩ (fun r => (∀ c : Dev Cert.MixFfnRefIdeal.nD,
      r.2.mem ((c.tc : Thread Cert.MixFfnRefIdeal.nD Cert.MixFfnRefIdeal.τ).loc Cert.MixFfnRefIdeal.main_arg0) = m ((c.tc : Thread Cert.MixFfnRefIdeal.nD Cert.MixFfnRefIdeal.τ).loc Cert.MixFfnRefIdeal.main_arg0)
      ∧ r.2.mem ((c.tc : Thread Cert.MixFfnRefIdeal.nD Cert.MixFfnRefIdeal.τ).loc Cert.MixFfnRefIdeal.main_arg1) = m ((c.tc : Thread Cert.MixFfnRefIdeal.nD Cert.MixFfnRefIdeal.τ).loc Cert.MixFfnRefIdeal.main_arg1)
      ∧ r.2.mem ((c.tc : Thread Cert.MixFfnRefIdeal.nD Cert.MixFfnRefIdeal.τ).loc Cert.MixFfnRefIdeal.main_arg2) = m ((c.tc : Thread Cert.MixFfnRefIdeal.nD Cert.MixFfnRefIdeal.τ).loc Cert.MixFfnRefIdeal.main_arg2)
      ∧ r.2.mem ((c.tc : Thread Cert.MixFfnRefIdeal.nD Cert.MixFfnRefIdeal.τ).loc Cert.MixFfnRefIdeal.main_arg3) = m ((c.tc : Thread Cert.MixFfnRefIdeal.nD Cert.MixFfnRefIdeal.τ).loc Cert.MixFfnRefIdeal.main_arg3)
      ∧ r.2.mem ((c.tc : Thread Cert.MixFfnRefIdeal.nD Cert.MixFfnRefIdeal.τ).loc Cert.MixFfnRefIdeal.main_arg4) = m ((c.tc : Thread Cert.MixFfnRefIdeal.nD Cert.MixFfnRefIdeal.τ).loc Cert.MixFfnRefIdeal.main_arg4)
      ∧ r.2.mem ((c.tc : Thread Cert.MixFfnRefIdeal.nD Cert.MixFfnRefIdeal.τ).loc Cert.MixFfnRefIdeal.main_arg5) = m ((c.tc : Thread Cert.MixFfnRefIdeal.nD Cert.MixFfnRefIdeal.τ).loc Cert.MixFfnRefIdeal.main_arg5)
      ∧ r.2.mem ((c.tc : Thread Cert.MixFfnRefIdeal.nD Cert.MixFfnRefIdeal.τ).loc Cert.MixFfnRefIdeal.main_arg6) = m ((c.tc : Thread Cert.MixFfnRefIdeal.nD Cert.MixFfnRefIdeal.τ).loc Cert.MixFfnRefIdeal.main_arg6)
      ∧ r.2.mem ((c.tc : Thread Cert.MixFfnRefIdeal.nD Cert.MixFfnRefIdeal.τ).loc Cert.MixFfnRefIdeal.main_arg7) = m ((c.tc : Thread Cert.MixFfnRefIdeal.nD Cert.MixFfnRefIdeal.τ).loc Cert.MixFfnRefIdeal.main_arg7)
      ∧ r.2.mem ((c.tc : Thread Cert.MixFfnRefIdeal.nD Cert.MixFfnRefIdeal.τ).loc Cert.MixFfnRefIdeal.main_arg8) = m ((c.tc : Thread Cert.MixFfnRefIdeal.nD Cert.MixFfnRefIdeal.τ).loc Cert.MixFfnRefIdeal.main_arg8)
      ∧ r.2.mem ((c.tc : Thread Cert.MixFfnRefIdeal.nD Cert.MixFfnRefIdeal.τ).loc Cert.MixFfnRefIdeal.main_arg9) = m ((c.tc : Thread Cert.MixFfnRefIdeal.nD Cert.MixFfnRefIdeal.τ).loc Cert.MixFfnRefIdeal.main_arg9)
      ∧ r.2.mem ((c.tc : Thread Cert.MixFfnRefIdeal.nD Cert.MixFfnRefIdeal.τ).loc Cert.MixFfnRefIdeal.main_arg10) = m ((c.tc : Thread Cert.MixFfnRefIdeal.nD Cert.MixFfnRefIdeal.τ).loc Cert.MixFfnRefIdeal.main_arg10)
      ∧ r.2.mem ((c.tc : Thread Cert.MixFfnRefIdeal.nD Cert.MixFfnRefIdeal.τ).loc Cert.MixFfnRefIdeal.main_arg11) = m ((c.tc : Thread Cert.MixFfnRefIdeal.nD Cert.MixFfnRefIdeal.τ).loc Cert.MixFfnRefIdeal.main_arg11))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MixFfn_MixFfnIdeal : Prop :=
  True

def algebraic_MixFfnIdeal_MixFfnRefIdeal [hMixFfnIdeal : Cert.MixFfnIdeal.Facts] [hMixFfnRefIdeal : Cert.MixFfnRefIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg)
    (m' : (ℓ : Loc Cert.MixFfnRefIdeal.nD Cert.MixFfnRefIdeal.τ Cert.MixFfnRefIdeal.sig) → Buf (Elt Ideal) ℓ) (g' : Dev Cert.MixFfnRefIdeal.nD → PrngReg), Pre_MixFfnIdeal m →
    (∀ c : Dev Cert.MixFfnIdeal.nD,
      m' ((c.tc : Thread Cert.MixFfnRefIdeal.nD Cert.MixFfnRefIdeal.τ).loc Cert.MixFfnRefIdeal.main_arg0) = m ((c.tc : Thread Cert.MixFfnIdeal.nD Cert.MixFfnIdeal.τ).loc Cert.MixFfnIdeal.main_arg0)
      ∧ m' ((c.tc : Thread Cert.MixFfnRefIdeal.nD Cert.MixFfnRefIdeal.τ).loc Cert.MixFfnRefIdeal.main_arg1) = m ((c.tc : Thread Cert.MixFfnIdeal.nD Cert.MixFfnIdeal.τ).loc Cert.MixFfnIdeal.main_arg1)
      ∧ m' ((c.tc : Thread Cert.MixFfnRefIdeal.nD Cert.MixFfnRefIdeal.τ).loc Cert.MixFfnRefIdeal.main_arg2) = m ((c.tc : Thread Cert.MixFfnIdeal.nD Cert.MixFfnIdeal.τ).loc Cert.MixFfnIdeal.main_arg2)
      ∧ m' ((c.tc : Thread Cert.MixFfnRefIdeal.nD Cert.MixFfnRefIdeal.τ).loc Cert.MixFfnRefIdeal.main_arg3) = m ((c.tc : Thread Cert.MixFfnIdeal.nD Cert.MixFfnIdeal.τ).loc Cert.MixFfnIdeal.main_arg3)
      ∧ m' ((c.tc : Thread Cert.MixFfnRefIdeal.nD Cert.MixFfnRefIdeal.τ).loc Cert.MixFfnRefIdeal.main_arg4) = m ((c.tc : Thread Cert.MixFfnIdeal.nD Cert.MixFfnIdeal.τ).loc Cert.MixFfnIdeal.main_arg4)
      ∧ m' ((c.tc : Thread Cert.MixFfnRefIdeal.nD Cert.MixFfnRefIdeal.τ).loc Cert.MixFfnRefIdeal.main_arg5) = m ((c.tc : Thread Cert.MixFfnIdeal.nD Cert.MixFfnIdeal.τ).loc Cert.MixFfnIdeal.main_arg5)
      ∧ m' ((c.tc : Thread Cert.MixFfnRefIdeal.nD Cert.MixFfnRefIdeal.τ).loc Cert.MixFfnRefIdeal.main_arg6) = m ((c.tc : Thread Cert.MixFfnIdeal.nD Cert.MixFfnIdeal.τ).loc Cert.MixFfnIdeal.main_arg6)
      ∧ m' ((c.tc : Thread Cert.MixFfnRefIdeal.nD Cert.MixFfnRefIdeal.τ).loc Cert.MixFfnRefIdeal.main_arg7) = m ((c.tc : Thread Cert.MixFfnIdeal.nD Cert.MixFfnIdeal.τ).loc Cert.MixFfnIdeal.main_arg7)
      ∧ m' ((c.tc : Thread Cert.MixFfnRefIdeal.nD Cert.MixFfnRefIdeal.τ).loc Cert.MixFfnRefIdeal.main_arg8) = m ((c.tc : Thread Cert.MixFfnIdeal.nD Cert.MixFfnIdeal.τ).loc Cert.MixFfnIdeal.main_arg8)
      ∧ m' ((c.tc : Thread Cert.MixFfnRefIdeal.nD Cert.MixFfnRefIdeal.τ).loc Cert.MixFfnRefIdeal.main_arg9) = m ((c.tc : Thread Cert.MixFfnIdeal.nD Cert.MixFfnIdeal.τ).loc Cert.MixFfnIdeal.main_arg9)
      ∧ m' ((c.tc : Thread Cert.MixFfnRefIdeal.nD Cert.MixFfnRefIdeal.τ).loc Cert.MixFfnRefIdeal.main_arg10) = m ((c.tc : Thread Cert.MixFfnIdeal.nD Cert.MixFfnIdeal.τ).loc Cert.MixFfnIdeal.main_arg10)
      ∧ m' ((c.tc : Thread Cert.MixFfnRefIdeal.nD Cert.MixFfnRefIdeal.τ).loc Cert.MixFfnRefIdeal.main_arg11) = m ((c.tc : Thread Cert.MixFfnIdeal.nD Cert.MixFfnIdeal.τ).loc Cert.MixFfnIdeal.main_arg11)) →
    ∃ (v0 : (c : Dev Cert.MixFfnIdeal.nD) → Buf (Elt Ideal) ((c.tc : Thread Cert.MixFfnIdeal.nD Cert.MixFfnIdeal.τ).loc Cert.MixFfnIdeal.main_v14)),
      θ_run (Cert.MixFfnIdeal.defs (F := Ideal)) (onTc (τ := Cert.MixFfnIdeal.τ) (Cert.MixFfnIdeal.main (F := Ideal))) ⟨m, fun _ => 0, g⟩ (fun r => ∀ c : Dev Cert.MixFfnIdeal.nD,
          r.2.mem ((c.tc : Thread Cert.MixFfnIdeal.nD Cert.MixFfnIdeal.τ).loc Cert.MixFfnIdeal.main_v14) = v0 c
          ∧ r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
          ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
          ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
          ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
          ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
          ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
          ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
          ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
          ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8)
          ∧ r.2.mem ((c.tc : Thread Cert.MixFfnIdeal.nD Cert.MixFfnIdeal.τ).loc Cert.MixFfnIdeal.main_arg9) = m ((c.tc : Thread Cert.MixFfnIdeal.nD Cert.MixFfnIdeal.τ).loc Cert.MixFfnIdeal.main_arg9)
          ∧ r.2.mem ((c.tc : Thread Cert.MixFfnIdeal.nD Cert.MixFfnIdeal.τ).loc Cert.MixFfnIdeal.main_arg10) = m ((c.tc : Thread Cert.MixFfnIdeal.nD Cert.MixFfnIdeal.τ).loc Cert.MixFfnIdeal.main_arg10)
          ∧ r.2.mem ((c.tc : Thread Cert.MixFfnIdeal.nD Cert.MixFfnIdeal.τ).loc Cert.MixFfnIdeal.main_arg11) = m ((c.tc : Thread Cert.MixFfnIdeal.nD Cert.MixFfnIdeal.τ).loc Cert.MixFfnIdeal.main_arg11))
      ∧ θ_run (Cert.MixFfnRefIdeal.defs (F := Ideal)) (onTc (τ := Cert.MixFfnRefIdeal.τ) (Cert.MixFfnRefIdeal.main (F := Ideal))) ⟨m', fun _ => 0, g'⟩ (fun r => ∀ c : Dev Cert.MixFfnRefIdeal.nD,
          r.2.mem ((c.tc : Thread Cert.MixFfnRefIdeal.nD Cert.MixFfnRefIdeal.τ).loc Cert.MixFfnRefIdeal.main_v76) = v0 c
          ∧ r.2.mem ((c.tc : Thread Cert.MixFfnRefIdeal.nD Cert.MixFfnRefIdeal.τ).loc Cert.MixFfnRefIdeal.main_arg0) = m' ((c.tc : Thread Cert.MixFfnRefIdeal.nD Cert.MixFfnRefIdeal.τ).loc Cert.MixFfnRefIdeal.main_arg0)
          ∧ r.2.mem ((c.tc : Thread Cert.MixFfnRefIdeal.nD Cert.MixFfnRefIdeal.τ).loc Cert.MixFfnRefIdeal.main_arg1) = m' ((c.tc : Thread Cert.MixFfnRefIdeal.nD Cert.MixFfnRefIdeal.τ).loc Cert.MixFfnRefIdeal.main_arg1)
          ∧ r.2.mem ((c.tc : Thread Cert.MixFfnRefIdeal.nD Cert.MixFfnRefIdeal.τ).loc Cert.MixFfnRefIdeal.main_arg2) = m' ((c.tc : Thread Cert.MixFfnRefIdeal.nD Cert.MixFfnRefIdeal.τ).loc Cert.MixFfnRefIdeal.main_arg2)
          ∧ r.2.mem ((c.tc : Thread Cert.MixFfnRefIdeal.nD Cert.MixFfnRefIdeal.τ).loc Cert.MixFfnRefIdeal.main_arg3) = m' ((c.tc : Thread Cert.MixFfnRefIdeal.nD Cert.MixFfnRefIdeal.τ).loc Cert.MixFfnRefIdeal.main_arg3)
          ∧ r.2.mem ((c.tc : Thread Cert.MixFfnRefIdeal.nD Cert.MixFfnRefIdeal.τ).loc Cert.MixFfnRefIdeal.main_arg4) = m' ((c.tc : Thread Cert.MixFfnRefIdeal.nD Cert.MixFfnRefIdeal.τ).loc Cert.MixFfnRefIdeal.main_arg4)
          ∧ r.2.mem ((c.tc : Thread Cert.MixFfnRefIdeal.nD Cert.MixFfnRefIdeal.τ).loc Cert.MixFfnRefIdeal.main_arg5) = m' ((c.tc : Thread Cert.MixFfnRefIdeal.nD Cert.MixFfnRefIdeal.τ).loc Cert.MixFfnRefIdeal.main_arg5)
          ∧ r.2.mem ((c.tc : Thread Cert.MixFfnRefIdeal.nD Cert.MixFfnRefIdeal.τ).loc Cert.MixFfnRefIdeal.main_arg6) = m' ((c.tc : Thread Cert.MixFfnRefIdeal.nD Cert.MixFfnRefIdeal.τ).loc Cert.MixFfnRefIdeal.main_arg6)
          ∧ r.2.mem ((c.tc : Thread Cert.MixFfnRefIdeal.nD Cert.MixFfnRefIdeal.τ).loc Cert.MixFfnRefIdeal.main_arg7) = m' ((c.tc : Thread Cert.MixFfnRefIdeal.nD Cert.MixFfnRefIdeal.τ).loc Cert.MixFfnRefIdeal.main_arg7)
          ∧ r.2.mem ((c.tc : Thread Cert.MixFfnRefIdeal.nD Cert.MixFfnRefIdeal.τ).loc Cert.MixFfnRefIdeal.main_arg8) = m' ((c.tc : Thread Cert.MixFfnRefIdeal.nD Cert.MixFfnRefIdeal.τ).loc Cert.MixFfnRefIdeal.main_arg8)
          ∧ r.2.mem ((c.tc : Thread Cert.MixFfnRefIdeal.nD Cert.MixFfnRefIdeal.τ).loc Cert.MixFfnRefIdeal.main_arg9) = m' ((c.tc : Thread Cert.MixFfnRefIdeal.nD Cert.MixFfnRefIdeal.τ).loc Cert.MixFfnRefIdeal.main_arg9)
          ∧ r.2.mem ((c.tc : Thread Cert.MixFfnRefIdeal.nD Cert.MixFfnRefIdeal.τ).loc Cert.MixFfnRefIdeal.main_arg10) = m' ((c.tc : Thread Cert.MixFfnRefIdeal.nD Cert.MixFfnRefIdeal.τ).loc Cert.MixFfnRefIdeal.main_arg10)
          ∧ r.2.mem ((c.tc : Thread Cert.MixFfnRefIdeal.nD Cert.MixFfnRefIdeal.τ).loc Cert.MixFfnRefIdeal.main_arg11) = m' ((c.tc : Thread Cert.MixFfnRefIdeal.nD Cert.MixFfnRefIdeal.τ).loc Cert.MixFfnRefIdeal.main_arg11))

def Claim : Prop :=
  ∃ (hFfn : Cert.Ffn.Facts) (hFfnIdeal : Cert.FfnIdeal.Facts) (hFfnRefIdeal : Cert.FfnRefIdeal.Facts) (hMixFfn : Cert.MixFfn.Facts) (hMixFfnIdeal : Cert.MixFfnIdeal.Facts) (hMixFfnRefIdeal : Cert.MixFfnRefIdeal.Facts),
    quiescent_Ffn (hFfn := hFfn)
    ∧ quiescent_FfnIdeal (hFfnIdeal := hFfnIdeal)
    ∧ quiescent_FfnRefIdeal (hFfnRefIdeal := hFfnRefIdeal)
    ∧ quiescent_MixFfn (hMixFfn := hMixFfn)
    ∧ quiescent_MixFfnIdeal (hMixFfnIdeal := hMixFfnIdeal)
    ∧ quiescent_MixFfnRefIdeal (hMixFfnRefIdeal := hMixFfnRefIdeal)
    ∧ preserves_Ffn_FfnIdeal
    ∧ algebraic_FfnIdeal_FfnRefIdeal (hFfnIdeal := hFfnIdeal) (hFfnRefIdeal := hFfnRefIdeal)
    ∧ preserves_MixFfn_MixFfnIdeal
    ∧ algebraic_MixFfnIdeal_MixFfnRefIdeal (hMixFfnIdeal := hMixFfnIdeal) (hMixFfnRefIdeal := hMixFfnRefIdeal)
-- ==== Ffn.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S16x64x2816 : Shape := ⟨3, ![16, 64, 2816]⟩
abbrev S16x176x1024 : Shape := ⟨3, ![16, 176, 1024]⟩
abbrev S1024x1024 : Shape := ⟨2, ![1024, 1024]⟩
abbrev S4x64x2816 : Shape := ⟨3, ![4, 64, 2816]⟩
abbrev S4x176x1024 : Shape := ⟨3, ![4, 176, 1024]⟩
abbrev S4 : Shape := ⟨1, ![4]⟩
abbrev S1 : Shape := ⟨1, ![1]⟩
abbrev S_ : Shape := ⟨0, ![]⟩
abbrev S1x64x2816 : Shape := ⟨3, ![1, 64, 2816]⟩
abbrev S1x176x1024 : Shape := ⟨3, ![1, 176, 1024]⟩
abbrev S64x2816 : Shape := ⟨2, ![64, 2816]⟩
abbrev S176x1024 : Shape := ⟨2, ![176, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S16x64x2816, .f32⟩
  | .hbm, ⟨9, _⟩ => ⟨S16x64x2816, .f32⟩
  | .hbm, ⟨10, _⟩ => ⟨S16x176x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x2816, .bf16⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S4x64x2816, .f32⟩
  | .local _ .vmem, ⟨11, _⟩ => ⟨S4x176x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S_, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== MixFfn.lean ====
abbrev S2x8192x1024 : Shape := ⟨3, ![2, 8192, 1024]⟩
abbrev S2x8192x512 : Shape := ⟨3, ![2, 8192, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S64x256x512 : Shape := ⟨3, ![64, 256, 512]⟩
abbrev S64x512x256 : Shape := ⟨3, ![64, 512, 256]⟩
abbrev S128x128x512 : Shape := ⟨3, ![128, 128, 512]⟩
abbrev S128x512x128 : Shape := ⟨3, ![128, 512, 128]⟩
abbrev S16384x1024 : Shape := ⟨2, ![16384, 1024]⟩
abbrev S1x512 : Shape := ⟨2, ![1, 512]⟩
abbrev S1x1024 : Shape := ⟨2, ![1, 1024]⟩
abbrev S16x64x2816 : Shape := ⟨3, ![16, 64, 2816]⟩
abbrev S16x176x1024 : Shape := ⟨3, ![16, 176, 1024]⟩
abbrev S4x512x256 : Shape := ⟨3, ![4, 512, 256]⟩
abbrev S8x512x128 : Shape := ⟨3, ![8, 512, 128]⟩
abbrev S4x64x2816 : Shape := ⟨3, ![4, 64, 2816]⟩
abbrev S4x176x1024 : Shape := ⟨3, ![4, 176, 1024]⟩
abbrev S4 : Shape := ⟨1, ![4]⟩
abbrev S1 : Shape := ⟨1, ![1]⟩
abbrev S_ : Shape := ⟨0, ![]⟩
abbrev S1x64x2816 : Shape := ⟨3, ![1, 64, 2816]⟩
abbrev S1x176x1024 : Shape := ⟨3, ![1, 176, 1024]⟩
abbrev S64x2816 : Shape := ⟨2, ![64, 2816]⟩
abbrev S176x1024 : Shape := ⟨2, ![176, 1024]⟩
abbrev S1x512x256 : Shape := ⟨3, ![1, 512, 256]⟩
abbrev S512x256 : Shape := ⟨2, ![512, 256]⟩
abbrev S256 : Shape := ⟨1, ![256]⟩
abbrev S1x256 : Shape := ⟨2, ![1, 256]⟩
abbrev S256x512 : Shape := ⟨2, ![256, 512]⟩
abbrev S1024x512 : Shape := ⟨2, ![1024, 512]⟩
abbrev S512x1024 : Shape := ⟨2, ![512, 1024]⟩
abbrev S1x512x128 : Shape := ⟨3, ![1, 512, 128]⟩
abbrev S512x128 : Shape := ⟨2, ![512, 128]⟩
abbrev S128 : Shape := ⟨1, ![128]⟩
abbrev S1x128 : Shape := ⟨2, ![1, 128]⟩
abbrev S128x512 : Shape := ⟨2, ![128, 512]⟩
abbrev S1024x1 : Shape := ⟨2, ![1024, 1]⟩
abbrev S512x1 : Shape := ⟨2, ![512, 1]⟩
abbrev S1024x256 : Shape := ⟨2, ![1024, 256]⟩
abbrev S512x2816 : Shape := ⟨2, ![512, 2816]⟩

abbrev nBuf : Space → Nat
  | .hbm => 27
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S64x256x512, .f32⟩
  | .hbm, ⟨13, _⟩ => ⟨S64x512x256, .f32⟩
  | .hbm, ⟨14, _⟩ => ⟨S128x128x512, .f32⟩
  | .hbm, ⟨15, _⟩ => ⟨S128x512x128, .f32⟩
  | .hbm, ⟨16, _⟩ => ⟨S16384x1024, .f32⟩
  | .hbm, ⟨17, _⟩ => ⟨S1x512, .f32⟩
  | .hbm, ⟨18, _⟩ => ⟨S1x512, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S16x64x2816, .f32⟩
  | .hbm, ⟨23, _⟩ => ⟨S16x64x2816, .f32⟩
  | .hbm, ⟨24, _⟩ => ⟨S16x176x1024, .f32⟩
  | .hbm, ⟨25, _⟩ => ⟨S1x1024, .f32⟩
  | .hbm, ⟨26, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S4x512x256, .f32⟩
  | .local _ .vmem, ⟨3, _⟩ => ⟨S4x512x256, .f32⟩
  | .local _ .vmem, ⟨4, _⟩ => ⟨S8x512x128, .f32⟩
  | .local _ .vmem, ⟨5, _⟩ => ⟨S8x512x128, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S4x64x2816, .f32⟩
  | .local _ .vmem, ⟨19, _⟩ => ⟨S4x176x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixFfnRefIdeal.lean ====
abbrev S2x8192x1024 : Shape := ⟨3, ![2, 8192, 1024]⟩
abbrev S2x8192x512 : Shape := ⟨3, ![2, 8192, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S2x8192x512, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x512, .f32⟩
  | .hbm, ⟨24, _⟩ => ⟨S2x8192x512, .f32⟩
  | .hbm, ⟨25, _⟩ => ⟨S1x1x512, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x512, .f32⟩
  | .hbm, ⟨40, _⟩ => ⟨S2x8192x512, .f32⟩
  | .hbm, ⟨41, _⟩ => ⟨S1x1x512, .f32⟩
  | .hbm, ⟨42, _⟩ => ⟨S2x8192x512, .f32⟩
  | .hbm, ⟨43, _⟩ => ⟨S2x8192x512, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1, .f32⟩
  | .hbm, ⟨57, _⟩ => ⟨S2x8192x1024, .f32⟩
  | .hbm, ⟨58, _⟩ => ⟨S2x8192x1024, .f32⟩
  | .hbm, ⟨59, _⟩ => ⟨S1x1x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S2x8192x2816, .f32⟩
  | .hbm, ⟨80, _⟩ => ⟨S2x8192x2816, .f32⟩
  | .hbm, ⟨81, _⟩ => ⟨S2x8192x2816, .f32⟩
  | .hbm, ⟨82, _⟩ => ⟨S_, .f32⟩
  | .hbm, ⟨83, _⟩ => ⟨S2x8192x2816, .f32⟩
  | .hbm, ⟨84, _⟩ => ⟨S2x8192x2816, .f32⟩
  | .hbm, ⟨85, _⟩ => ⟨S_, .f32⟩
  | .hbm, ⟨86, _⟩ => ⟨S2x8192x2816, .f32⟩
  | .hbm, ⟨87, _⟩ => ⟨S2x8192x2816, .f32⟩
  | .hbm, ⟨88, _⟩ => ⟨S2x8192x2816, .f32⟩
  | .hbm, ⟨89, _⟩ => ⟨S2x8192x2816, .f32⟩
  | .hbm, ⟨90, _⟩ => ⟨S2x8192x2816, .f32⟩
  | .hbm, ⟨91, _⟩ => ⟨S2x8192x1024, .f32⟩
  | .hbm, ⟨92, _⟩ => ⟨S2x8192x1024, .f32⟩
  | .hbm, ⟨93, _⟩ => ⟨S_, .f32⟩
  | .hbm, ⟨94, _⟩ => ⟨S2x8192, .f32⟩
  | .hbm, ⟨95, _⟩ => ⟨S2x8192x1, .f32⟩
  | .hbm, ⟨96, _⟩ => ⟨S_, .f32⟩
  | .hbm, ⟨97, _⟩ => ⟨S2x8192x1, .f32⟩
  | .hbm, ⟨98, _⟩ => ⟨S2x8192x1, .f32⟩
  | .hbm, ⟨99, _⟩ => ⟨S_, .f32⟩
  | .hbm, ⟨100, _⟩ => ⟨S2x8192x1, .f32⟩
  | .hbm, ⟨101, _⟩ => ⟨S2x8192x1, .f32⟩
  | .hbm, ⟨102, _⟩ => ⟨S2x8192x1, .f32⟩
  | .hbm, ⟨103, _⟩ => ⟨S2x8192x1024, .f32⟩
  | .hbm, ⟨104, _⟩ => ⟨S2x8192x1024, .f32⟩
  | .hbm, ⟨105, _⟩ => ⟨S1x1x1024, .f32⟩
  | .hbm, ⟨106, _⟩ => ⟨S2x8192x1024, .f32⟩
  | .hbm, ⟨107, _⟩ => ⟨S2x8192x1024, .f32⟩
  | .hbm, ⟨108, _⟩ => ⟨S_, .f32⟩
  | .hbm, ⟨109, _⟩ => ⟨S2x8192x1024, .f32⟩
  | .hbm, ⟨110, _⟩ => ⟨S2x8192x1024, .f32⟩
  | .hbm, ⟨111, _⟩ => ⟨S2x8192x1024, .f32⟩
  | .hbm, ⟨112, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Proof.FfnRow.lean ====
module

public import Idealize.ShloMosaic.Lib.Pointwise

@[expose] public section
noncomputable section
namespace Cert.FfnRow
open Idealize.ShloMosaic

/-- A row over its root mean square (over `N` entries), times the gains `g`. -/
def rms {n : ℕ} (N : EReal) (x g : Fin n → EReal) (j : Fin n) : EReal :=
  x j * Ideal.rsqrt (Ideal.div (∑ k, x k * x k) N + Ideal.ofBits .f32 0x358637BD#32) * g j

/-- One unit of the hidden layer: the gate's projection times its logistic, times the other projection. -/
def hidden {n : ℕ} (x wg wu : Fin n → EReal) : EReal :=
  (∑ k, x k * wg k) * Ideal.logistic (∑ k, x k * wg k) * ∑ k, x k * wu k

/-- The feed-forward half of the layer on one row `x`. -/
def ffn (x pg : Fin 1024 → EReal) (wg wu : Fin 1024 → Fin 2816 → EReal) (wd : Fin 2816 → Fin 1024 → EReal)
    (qg : Fin 1024 → EReal) (j : Fin 1024) : EReal :=
  x j + Ideal.ofBits .f32 0x3F000000#32 *
    rms (Ideal.ofBits .f32 0x44800000#32)
      (fun j => ∑ f, hidden (rms (Ideal.ofBits .f32 0x44800000#32) x pg) (fun k => wg k f) (fun k => wu k f) * wd f j) qg j

/-- The mixer's residual step on one row: the two head groups normalized apart, projected together, normalized, added. -/
def mix (x : Fin 1024 → EReal) (a b ga gb : Fin 512 → EReal) (w : Fin 1024 → Fin 1024 → EReal) (mg : Fin 1024 → EReal)
    (j : Fin 1024) : EReal :=
  x j + rms (Ideal.ofBits .f32 0x44800000#32)
    (fun j => ∑ k : Fin 512, rms (Ideal.ofBits .f32 0x44000000#32) a ga k * w ⟨k, by omega⟩ j
      + ∑ k : Fin 512, rms (Ideal.ofBits .f32 0x44000000#32) b gb k * w ⟨512 + k, by omega⟩ j) mg j
end Cert.FfnRow
end
-- ==== Proof.FfnPay.lean ====
module

public import proofs.«01_k».proof.Proof.Gen.FfnIdeal.Skeleton
public import proofs.«01_k».proof.Proof.FfnRow
public import Idealize.ShloMosaic.Lib.Pipeline.ValueKit

@[expose] public section
set_option maxRecDepth 16384
noncomputable section
namespace Cert.FfnIdeal.Pay
open Cert.FfnIdeal Cert.FfnIdeal.Gen Cert.FfnRow
open Idealize.ShloMosaic Idealize.ShloMosaic.TcCoe Idealize.SL.Sem

/-- A hidden unit: the gate's product through its logistic, times the other product. -/
theorem hid (x : Vec Ideal S512x1024 .bf16) (g u : Vec Ideal S1024x256 .bf16) (r : Fin 512) (f : Fin 256) :
    k0_pay55 (F := Ideal) x g u (ix2 r f) = hidden (fun k => x (ix2 r k)) (fun k => g (ix2 k f)) (fun k => u (ix2 k f)) := by
  pointwise [k0_pay55]; rfl

/-- One half's output row. -/
theorem out0 (z : Vec Ideal S512x1024 .f32) (h : Vec Ideal S512x2816 .bf16) (w : Vec Ideal S2816x1024 .bf16) (g : Vec Ideal S1x1024 .f32) (r : Fin 512) (j : Fin 1024) :
    k0_pay67 (F := Ideal) (k0_pay50 z) h w g (ix2 r j) = (z (ix2 r j) : EReal) + Ideal.ofBits .f32 0x3F000000#32 *
      rms (Ideal.ofBits .f32 0x44800000#32) (fun j => ∑ f, (h (ix2 r f) : EReal) * w (ix2 f j)) (fun j => g (ix2 0 j)) j := by
  pointwise [k0_pay67, k0_pay50]; rfl

/-- A row of the hidden layer's input, normalized. -/
theorem norm (z : Vec Ideal S512x1024 .f32) (v : Vec Ideal S1x1024 .f32) (r : Fin 512) (k : Fin 1024) : k0_pay51 (F := Ideal) z v (ix2 r k)
    = rms (Ideal.ofBits .f32 0x44800000#32) (fun k => z (ix2 r k)) (fun k => v (ix2 0 k)) k := by
  pointwise [k0_pay51, k0_pay50]; rfl

/-- The first 512 rows of a block, and the other ones. -/
abbrev lo (X : Vec Ideal S1024x1024 .f32) : Vec Ideal S512x1024 .f32 := View.ld X (Rect.unit ![0, 0] ![512, 1024] inb_S1024x1024_S512x1024_0_0)
abbrev hi (X : Vec Ideal S1024x1024 .f32) : Vec Ideal S512x1024 .f32 := View.ld X (Rect.unit ![512, 0] ![512, 1024] inb_S1024x1024_S512x1024_512_0)

theorem lo_at (X : Vec Ideal S1024x1024 .f32) (r : Fin 512) (k : Fin 1024) :
    lo X (ix2 r k) = X (ix2 ⟨r, by omega⟩ k) := by
  unfold lo; pointwise; blk_ext
theorem hi_at (X : Vec Ideal S1024x1024 .f32) (r : Fin 512) (k : Fin 1024) :
    hi X (ix2 r k) = X (ix2 ⟨512 + r, by omega⟩ k) := by
  unfold hi; pointwise; blk_ext

variable (n : FVec Ideal S512x1024 .bf16) (z : Vec Ideal S512x1024 .f32) (v : Vec Ideal S1x1024 .f32)
  (g u : Vec Ideal S1024x256 .bf16)

theorem e52 : k0_pay52 (F := Ideal) z v g u = k0_pay55 (k0_pay51 z v) g u := rfl
theorem e54 : k0_pay54 (F := Ideal) (k0_pay51 z v) (k0_pay53 z v g) u (constant (F := Ideal) S512x256 .f32 0x00000000#32) = k0_pay55 (k0_pay51 z v) g u := rfl
theorem e56 : k0_pay56 (F := Ideal) n g u = k0_pay55 n g u := rfl
theorem e58 : k0_pay58 (F := Ideal) n (k0_pay57 n g) u (constant (F := Ideal) S512x256 .f32 0x00000000#32) = k0_pay55 n g u := rfl
theorem e59 : k0_pay59 (F := Ideal) n g u = k0_pay55 n g u := rfl
theorem e60 : k0_pay60 (F := Ideal) n g u = k0_pay55 n g u := rfl
theorem e62 : k0_pay62 (F := Ideal) n (k0_pay61 n g) u (constant (F := Ideal) S512x256 .f32 0x00000000#32) = k0_pay55 n g u := rfl
theorem e63 : k0_pay63 (F := Ideal) n g u = k0_pay55 n g u := rfl
theorem e64 : k0_pay64 (F := Ideal) n g u = k0_pay55 n g u := rfl
theorem e66 : k0_pay66 (F := Ideal) n (k0_pay65 n g) u (constant (F := Ideal) S512x256 .f32 0x00000000#32) = k0_pay55 n g u := rfl
theorem e72 : k0_pay72 (F := Ideal) (k0_pay68 z) (k0_pay69 v) (k0_pay70 z) k0_pay71 = k0_pay51 z v := rfl
theorem e73 : k0_pay73 (F := Ideal) (k0_pay68 z) (k0_pay69 v) (k0_pay70 z) k0_pay71 g u = k0_pay55 (k0_pay51 z v) g u := rfl
theorem e74 : k0_pay74 (F := Ideal) (k0_pay68 z) (k0_pay69 v) (k0_pay70 z) k0_pay71 g u = k0_pay55 (k0_pay51 z v) g u := rfl
theorem e77 : k0_pay77 (F := Ideal) (k0_pay75 (k0_pay68 z) (k0_pay69 v) (k0_pay70 z) k0_pay71 g)
    (k0_pay76 (k0_pay68 z) (k0_pay69 v) (k0_pay70 z) k0_pay71 u) = k0_pay55 (k0_pay51 z v) g u := rfl
theorem e78 : k0_pay78 (F := Ideal) n g u = k0_pay55 n g u := rfl
theorem e79 : k0_pay79 (F := Ideal) n g u = k0_pay55 n g u := rfl
theorem e82 : k0_pay82 (F := Ideal) (k0_pay80 n g) (k0_pay81 n u) = k0_pay55 n g u := rfl
theorem e83 : k0_pay83 (F := Ideal) n g u = k0_pay55 n g u := rfl
theorem e84 : k0_pay84 (F := Ideal) n g u = k0_pay55 n g u := rfl
theorem e87 : k0_pay87 (F := Ideal) (k0_pay85 n g) (k0_pay86 n u) = k0_pay55 n g u := rfl
theorem e88 : k0_pay88 (F := Ideal) n g u = k0_pay55 n g u := rfl
theorem e89 : k0_pay89 (F := Ideal) n g u = k0_pay55 n g u := rfl
theorem e1 (h : Vec Ideal S512x2816 .bf16) (w : Vec Ideal S2816x1024 .bf16) :
    k0_pay1 (F := Ideal) (k0_pay68 z) (k0_pay90 h w) v = k0_pay67 (k0_pay50 z) h w v := rfl

theorem eta (i : S512x1024.Idx) :
    i = ix2 ⟨i 0, by have := (i 0).isLt; simpa using this⟩ ⟨i 1, by have := (i 1).isLt; simpa using this⟩ := by
  funext k; match k with
  | 0 => rfl
  | 1 => rfl
theorem eta' (i : S512x256.Idx) :
    i = ix2 ⟨i 0, by have := (i 0).isLt; simpa using this⟩ ⟨i 1, by have := (i 1).isLt; simpa using this⟩ := by
  funext k; match k with
  | 0 => rfl
  | 1 => rfl

end Cert.FfnIdeal.Pay
end
-- ==== Proof.FfnCov.lean ====
module

public import proofs.«01_k».proof.Proof.Gen.FfnIdeal.Value
public import Idealize.ShloMosaic.Lib.Pipeline.Value
public import Idealize.ShloMosaic.Lib.Claim
public import proofs.«01_k».proof.Proof.FfnPay
public import Idealize.ShloMosaic.Lib.Pipeline.ValueKit
public import Idealize.ShloMosaic.Lib.Pointwise

@[expose] public section
set_option maxRecDepth 16384
noncomputable section
namespace Cert.FfnIdeal.Cov
open Cert.FfnIdeal Cert.FfnIdeal.Gen Cert.FfnRow
open Idealize.ShloMosaic Idealize.ShloMosaic.TcCoe Idealize.SL.Sem
open Idealize.ShloMosaic.Pipeline (Dat)

/-- The first part's stores cover its rows. -/
theorem cov (w0 w1 w2 w3 w4 w5 w6 w7 w8 w9 w10 : FVec Ideal S512x256 .bf16) (i : S1024x2816.Idx) (h : (i 0 : ℕ) < 512) :
    ∃ p ∈ ([⟨Rect.unit ![0, 2560] ![512, 256] inb_S1024x2816_S512x256_0_2560, w0⟩,
        ⟨Rect.unit ![0, 2304] ![512, 256] inb_S1024x2816_S512x256_0_2304, w1⟩,
        ⟨Rect.unit ![0, 2048] ![512, 256] inb_S1024x2816_S512x256_0_2048, w2⟩,
        ⟨Rect.unit ![0, 1792] ![512, 256] inb_S1024x2816_S512x256_0_1792, w3⟩,
        ⟨Rect.unit ![0, 1536] ![512, 256] inb_S1024x2816_S512x256_0_1536, w4⟩,
        ⟨Rect.unit ![0, 1280] ![512, 256] inb_S1024x2816_S512x256_0_1280, w5⟩,
        ⟨Rect.unit ![0, 1024] ![512, 256] inb_S1024x2816_S512x256_0_1024, w6⟩,
        ⟨Rect.unit ![0, 768] ![512, 256] inb_S1024x2816_S512x256_0_768, w7⟩,
        ⟨Rect.unit ![0, 512] ![512, 256] inb_S1024x2816_S512x256_0_512, w8⟩,
        ⟨Rect.unit ![0, 256] ![512, 256] inb_S1024x2816_S512x256_0_256, w9⟩,
        ⟨Rect.unit ![0, 0] ![512, 256] inb_S1024x2816_S512x256_0_0, w10⟩] : List (View.Piece (Elt Ideal) S1024x2816 .bf16)), i ∈ p.1.set := by
  have h1 : (i 1 : ℕ) < 2816 := (i 1).isLt
  simp only [List.mem_cons, List.not_mem_nil, or_false, exists_eq_or_imp, exists_eq_left, Rect.mem_set_unit, Fin.forall_fin_two]
  simp
  omega
end Cert.FfnIdeal.Cov
end
-- ==== Proof.FfnHid.lean ====
module

public import proofs.«01_k».proof.Proof.Gen.FfnIdeal.Value
public import Idealize.ShloMosaic.Lib.Pipeline.Value
public import Idealize.ShloMosaic.Lib.Claim
public import proofs.«01_k».proof.Proof.FfnPay
public import proofs.«01_k».proof.Proof.FfnCov
public import Idealize.ShloMosaic.Lib.Pipeline.ValueKit
public import Idealize.ShloMosaic.Lib.Pointwise

@[expose] public section
set_option maxRecDepth 16384
noncomputable section
namespace Cert.FfnIdeal.Rows
open Cert.FfnIdeal Cert.FfnIdeal.Gen Cert.FfnRow
open Idealize.ShloMosaic Idealize.ShloMosaic.TcCoe Idealize.SL.Sem
open Idealize.ShloMosaic.Pipeline (Dat)

/-- The feed-forward half on row `r` of `X`, with the kernel's own weights. -/
def FF (X : S1024x1024.Idx → EReal) (pg : S1x1024.Idx → EReal) (g u : S1024x2816.Idx → EReal) (d : S2816x1024.Idx → EReal)
    (qg : S1x1024.Idx → EReal) (r j : Fin 1024) : EReal :=
  ffn (fun k => X (ix2 r k)) (fun k => pg (ix2 0 k)) (fun k f => g (ix2 k f)) (fun k f => u (ix2 k f))
    (fun f j => d (ix2 f j)) (fun j => qg (ix2 0 j)) j

theorem wg (h : (Memref.whole cc0_scratch1).IsWhole) (x : Vec Ideal S1024x2816 .bf16) :
    View.read (Elt Ideal) (View.whole cc0_scratch1) (h.unread x) = x := h.read_unread x
theorem wu (h : (Memref.whole cc0_scratch2).IsWhole) (x : Vec Ideal S1024x2816 .bf16) :
    View.read (Elt Ideal) (View.whole cc0_scratch2) (h.unread x) = x := h.read_unread x
theorem wd (h : (Memref.whole cc0_scratch3).IsWhole) (x : Vec Ideal S2816x1024 .bf16) :
    View.read (Elt Ideal) (View.whole cc0_scratch3) (h.unread x) = x := h.read_unread x

variable (X : Vec Ideal S1024x1024 .f32) (x1 : Vec Ideal S1x1024 .f32) (g u : Vec Ideal S1024x2816 .bf16) (d : Vec Ideal S2816x1024 .bf16)
  (x2 : Vec Ideal S1x1024 .f32)

/-- The hidden layer's stores for the first 512 rows, last first. -/
def half0 : List (View.Piece (Elt Ideal) S1024x2816 .bf16) :=
  [⟨Rect.unit ![0, 2560] ![512, 256] inb_S1024x2816_S512x256_0_2560, k0_pay55 (F := Ideal) (k0_pay51 (Pay.lo X) x1)
      (View.ld g (Rect.unit ![0, 2560] ![1024, 256] inb_S1024x2816_S1024x256_0_2560)) (View.ld u (Rect.unit ![0, 2560] ![1024, 256] inb_S1024x2816_S1024x256_0_2560))⟩,
    ⟨Rect.unit ![0, 2304] ![512, 256] inb_S1024x2816_S512x256_0_2304, k0_pay55 (F := Ideal) (k0_pay51 (Pay.lo X) x1)
      (View.ld g (Rect.unit ![0, 2304] ![1024, 256] inb_S1024x2816_S1024x256_0_2304)) (View.ld u (Rect.unit ![0, 2304] ![1024, 256] inb_S1024x2816_S1024x256_0_2304))⟩,
    ⟨Rect.unit ![0, 2048] ![512, 256] inb_S1024x2816_S512x256_0_2048, k0_pay55 (F := Ideal) (k0_pay51 (Pay.lo X) x1)
      (View.ld g (Rect.unit ![0, 2048] ![1024, 256] inb_S1024x2816_S1024x256_0_2048)) (View.ld u (Rect.unit ![0, 2048] ![1024, 256] inb_S1024x2816_S1024x256_0_2048))⟩,
    ⟨Rect.unit ![0, 1792] ![512, 256] inb_S1024x2816_S512x256_0_1792, k0_pay55 (F := Ideal) (k0_pay51 (Pay.lo X) x1)
      (View.ld g (Rect.unit ![0, 1792] ![1024, 256] inb_S1024x2816_S1024x256_0_1792)) (View.ld u (Rect.unit ![0, 1792] ![1024, 256] inb_S1024x2816_S1024x256_0_1792))⟩,
    ⟨Rect.unit ![0, 1536] ![512, 256] inb_S1024x2816_S512x256_0_1536, k0_pay55 (F := Ideal) (k0_pay51 (Pay.lo X) x1)
      (View.ld g (Rect.unit ![0, 1536] ![1024, 256] inb_S1024x2816_S1024x256_0_1536)) (View.ld u (Rect.unit ![0, 1536] ![1024, 256] inb_S1024x2816_S1024x256_0_1536))⟩,
    ⟨Rect.unit ![0, 1280] ![512, 256] inb_S1024x2816_S512x256_0_1280, k0_pay55 (F := Ideal) (k0_pay51 (Pay.lo X) x1)
      (View.ld g (Rect.unit ![0, 1280] ![1024, 256] inb_S1024x2816_S1024x256_0_1280)) (View.ld u (Rect.unit ![0, 1280] ![1024, 256] inb_S1024x2816_S1024x256_0_1280))⟩,
    ⟨Rect.unit ![0, 1024] ![512, 256] inb_S1024x2816_S512x256_0_1024, k0_pay55 (F := Ideal) (k0_pay51 (Pay.lo X) x1)
      (View.ld g (Rect.unit ![0, 1024] ![1024, 256] inb_S1024x2816_S1024x256_0_1024)) (View.ld u (Rect.unit ![0, 1024] ![1024, 256] inb_S1024x2816_S1024x256_0_1024))⟩,
    ⟨Rect.unit ![0, 768] ![512, 256] inb_S1024x2816_S512x256_0_768, k0_pay55 (F := Ideal) (k0_pay51 (Pay.lo X) x1)
      (View.ld g (Rect.unit ![0, 768] ![1024, 256] inb_S1024x2816_S1024x256_0_768)) (View.ld u (Rect.unit ![0, 768] ![1024, 256] inb_S1024x2816_S1024x256_0_768))⟩,
    ⟨Rect.unit ![0, 512] ![512, 256] inb_S1024x2816_S512x256_0_512, k0_pay55 (F := Ideal) (k0_pay51 (Pay.lo X) x1)
      (View.ld g (Rect.unit ![0, 512] ![1024, 256] inb_S1024x2816_S1024x256_0_512)) (View.ld u (Rect.unit ![0, 512] ![1024, 256] inb_S1024x2816_S1024x256_0_512))⟩,
    ⟨Rect.unit ![0, 256] ![512, 256] inb_S1024x2816_S512x256_0_256, k0_pay55 (F := Ideal) (k0_pay51 (Pay.lo X) x1)
      (View.ld g (Rect.unit ![0, 256] ![1024, 256] inb_S1024x2816_S1024x256_0_256)) (View.ld u (Rect.unit ![0, 256] ![1024, 256] inb_S1024x2816_S1024x256_0_256))⟩,
    ⟨Rect.unit ![0, 0] ![512, 256] inb_S1024x2816_S512x256_0_0, k0_pay55 (F := Ideal) (k0_pay51 (Pay.lo X) x1)
      (View.ld g (Rect.unit ![0, 0] ![1024, 256] inb_S1024x2816_S1024x256_0_0)) (View.ld u (Rect.unit ![0, 0] ![1024, 256] inb_S1024x2816_S1024x256_0_0))⟩]

/-- The hidden layer's stores for the other rows. -/
def half1 : List (View.Piece (Elt Ideal) S1024x2816 .bf16) :=
  [⟨Rect.unit ![512, 2560] ![512, 256] inb_S1024x2816_S512x256_512_2560, k0_pay55 (F := Ideal) (k0_pay51 (Pay.hi X) x1)
      (View.ld g (Rect.unit ![0, 2560] ![1024, 256] inb_S1024x2816_S1024x256_0_2560)) (View.ld u (Rect.unit ![0, 2560] ![1024, 256] inb_S1024x2816_S1024x256_0_2560))⟩,
    ⟨Rect.unit ![512, 2304] ![512, 256] inb_S1024x2816_S512x256_512_2304, k0_pay55 (F := Ideal) (k0_pay51 (Pay.hi X) x1)
      (View.ld g (Rect.unit ![0, 2304] ![1024, 256] inb_S1024x2816_S1024x256_0_2304)) (View.ld u (Rect.unit ![0, 2304] ![1024, 256] inb_S1024x2816_S1024x256_0_2304))⟩,
    ⟨Rect.unit ![512, 2048] ![512, 256] inb_S1024x2816_S512x256_512_2048, k0_pay55 (F := Ideal) (k0_pay51 (Pay.hi X) x1)
      (View.ld g (Rect.unit ![0, 2048] ![1024, 256] inb_S1024x2816_S1024x256_0_2048)) (View.ld u (Rect.unit ![0, 2048] ![1024, 256] inb_S1024x2816_S1024x256_0_2048))⟩,
    ⟨Rect.unit ![512, 1792] ![512, 256] inb_S1024x2816_S512x256_512_1792, k0_pay55 (F := Ideal) (k0_pay51 (Pay.hi X) x1)
      (View.ld g (Rect.unit ![0, 1792] ![1024, 256] inb_S1024x2816_S1024x256_0_1792)) (View.ld u (Rect.unit ![0, 1792] ![1024, 256] inb_S1024x2816_S1024x256_0_1792))⟩,
    ⟨Rect.unit ![512, 1536] ![512, 256] inb_S1024x2816_S512x256_512_1536, k0_pay55 (F := Ideal) (k0_pay51 (Pay.hi X) x1)
      (View.ld g (Rect.unit ![0, 1536] ![1024, 256] inb_S1024x2816_S1024x256_0_1536)) (View.ld u (Rect.unit ![0, 1536] ![1024, 256] inb_S1024x2816_S1024x256_0_1536))⟩,
    ⟨Rect.unit ![512, 1280] ![512, 256] inb_S1024x2816_S512x256_512_1280, k0_pay55 (F := Ideal) (k0_pay51 (Pay.hi X) x1)
      (View.ld g (Rect.unit ![0, 1280] ![1024, 256] inb_S1024x2816_S1024x256_0_1280)) (View.ld u (Rect.unit ![0, 1280] ![1024, 256] inb_S1024x2816_S1024x256_0_1280))⟩,
    ⟨Rect.unit ![512, 1024] ![512, 256] inb_S1024x2816_S512x256_512_1024, k0_pay55 (F := Ideal) (k0_pay51 (Pay.hi X) x1)
      (View.ld g (Rect.unit ![0, 1024] ![1024, 256] inb_S1024x2816_S1024x256_0_1024)) (View.ld u (Rect.unit ![0, 1024] ![1024, 256] inb_S1024x2816_S1024x256_0_1024))⟩,
    ⟨Rect.unit ![512, 768] ![512, 256] inb_S1024x2816_S512x256_512_768, k0_pay55 (F := Ideal) (k0_pay51 (Pay.hi X) x1)
      (View.ld g (Rect.unit ![0, 768] ![1024, 256] inb_S1024x2816_S1024x256_0_768)) (View.ld u (Rect.unit ![0, 768] ![1024, 256] inb_S1024x2816_S1024x256_0_768))⟩,
    ⟨Rect.unit ![512, 512] ![512, 256] inb_S1024x2816_S512x256_512_512, k0_pay55 (F := Ideal) (k0_pay51 (Pay.hi X) x1)
      (View.ld g (Rect.unit ![0, 512] ![1024, 256] inb_S1024x2816_S1024x256_0_512)) (View.ld u (Rect.unit ![0, 512] ![1024, 256] inb_S1024x2816_S1024x256_0_512))⟩,
    ⟨Rect.unit ![512, 256] ![512, 256] inb_S1024x2816_S512x256_512_256, k0_pay55 (F := Ideal) (k0_pay51 (Pay.hi X) x1)
      (View.ld g (Rect.unit ![0, 256] ![1024, 256] inb_S1024x2816_S1024x256_0_256)) (View.ld u (Rect.unit ![0, 256] ![1024, 256] inb_S1024x2816_S1024x256_0_256))⟩,
    ⟨Rect.unit ![512, 0] ![512, 256] inb_S1024x2816_S512x256_512_0, k0_pay55 (F := Ideal) (k0_pay51 (Pay.hi X) x1)
      (View.ld g (Rect.unit ![0, 0] ![1024, 256] inb_S1024x2816_S1024x256_0_0)) (View.ld u (Rect.unit ![0, 0] ![1024, 256] inb_S1024x2816_S1024x256_0_0))⟩]

/-- What the hidden layer's buffer holds in the first part's rows. -/
theorem hid0 (p : Fin 512) (f : Fin 2816) (i : S1024x2816.Idx) (i0 : (i 0 : ℕ) = p) (i1 : (i 1 : ℕ) = f) :
    View.canon (half0 X x1 g u) i = FfnRow.hidden (rms (Ideal.ofBits .f32 0x44800000#32) (fun k => X (ix2 ⟨p, by omega⟩ k)) fun k => x1 (ix2 0 k))
      (fun k => g (ix2 k f)) fun k => u (ix2 k f) := by
  have hp := p.isLt
  have hf := f.isLt
  unfold half0
  canon_tiles z k using (Cov.cov _ _ _ _ _ _ _ _ _ _ _ _ (by omega))
  all_goals
    have z1 : (z 1 : ℕ) < 256 := (z 1).isLt
    refine (congrArg _ (Pay.eta' z)).trans ((Pay.hid _ _ _ _ _).trans ?_)
    refine congrArg₂ (fun a b : EReal => a * Ideal.logistic a * b) (Finset.sum_congr rfl fun k _ => congrArg₂ (fun a b : EReal => a * b) ?_ ?_) (Finset.sum_congr rfl fun k _ => congrArg₂ (fun a b : EReal => a * b) ?_ ?_)
  all_goals first
    | refine (Pay.norm _ _ _ _).trans (congrArg (fun F => rms _ F _ _) (funext fun j => (Pay.lo_at _ _ _).trans ?_)); blk_ext
    | (beta_reduce; pointwise; blk_ext)

/-- What the hidden layer's buffer holds in the second part's rows, after all stores. -/
theorem hid1 (p : Fin 512) (f : Fin 2816) (i : S1024x2816.Idx) (i0 : (i 0 : ℕ) = 512 + p) (i1 : (i 1 : ℕ) = f) :
    View.canon (half1 X x1 g u ++ half0 X x1 g u) i = FfnRow.hidden (rms (Ideal.ofBits .f32 0x44800000#32) (fun k => X (ix2 ⟨512 + p, by omega⟩ k)) fun k => x1 (ix2 0 k))
      (fun k => g (ix2 k f)) fun k => u (ix2 k f) := by
  have hp := p.isLt
  have hf := f.isLt
  simp only [half0, half1, List.cons_append, List.nil_append]
  canon_tiles z k
  all_goals try omega
  all_goals
    have z1 : (z 1 : ℕ) < 256 := (z 1).isLt
    refine (congrArg _ (Pay.eta' z)).trans ((Pay.hid _ _ _ _ _).trans ?_)
    refine congrArg₂ (fun a b : EReal => a * Ideal.logistic a * b) (Finset.sum_congr rfl fun k _ => congrArg₂ (fun a b : EReal => a * b) ?_ ?_) (Finset.sum_congr rfl fun k _ => congrArg₂ (fun a b : EReal => a * b) ?_ ?_)
  all_goals first
    | refine (Pay.norm _ _ _ _).trans (congrArg (fun F => rms _ F _ _) (funext fun j => (Pay.hi_at _ _ _).trans ?_)); blk_ext
    | (beta_reduce; pointwise; blk_ext)

/-- A point's two stores: the feed-forward half of every row. -/
theorem core (y : S1024x1024.Idx) :
    View.canon (Val := Elt Ideal) (e := .f32) [⟨Rect.unit ![512, 0] ![512, 1024] inb_S1024x1024_S512x1024_512_0,
        k0_pay67 (F := Ideal) (k0_pay50 (Pay.hi X)) (View.ld (View.canon (half1 X x1 g u ++ half0 X x1 g u)) (Rect.unit ![512, 0] ![512, 2816] inb_S1024x2816_S512x2816_512_0)) d x2⟩,
      ⟨Rect.unit ![0, 0] ![512, 1024] inb_S1024x1024_S512x1024_0_0,
        k0_pay67 (F := Ideal) (k0_pay50 (Pay.lo X)) (View.ld (View.canon (half0 X x1 g u)) (Rect.unit ![0, 0] ![512, 2816] inb_S1024x2816_S512x2816_0_0)) d x2⟩] y
      = FF X x1 g u d x2 ⟨y 0, by have := (y 0).isLt; simpa using this⟩ ⟨y 1, by have := (y 1).isLt; simpa using this⟩ := by
  have y0lt : (y 0 : ℕ) < 1024 := (y 0).isLt
  have y1lt : (y 1 : ℕ) < 1024 := (y 1).isLt
  unfold FF ffn
  canon_tiles x h
  · refine (congrArg _ (Pay.eta x)).trans ((Pay.out0 _ _ _ _ _ _).trans ?_)
    refine congrArg₂ (fun a b : EReal => a + b) ((Pay.hi_at _ _ _).trans (by blk_ext)) (congrArg (fun a : EReal => _ * a) ?_)
    refine (congrArg (rms _ _ _) (Fin.ext h1.symm)).trans ?_
    refine congrArg (fun F => rms _ F _ _) (funext fun j => Finset.sum_congr rfl fun f _ => congrArg₂ (fun a b : EReal => a * b) ?_ rfl)
    refine (hid1 X x1 g u ⟨x 0, x0_lt⟩ f _ ?_ ?_).trans ?_
    · change 512 + 1 * (x 0 : ℕ) = 512 + (x 0 : ℕ); omega
    · change 0 + 1 * (f : ℕ) = _; omega
    · refine congrArg (fun F => FfnRow.hidden (rms _ F _) _ _) (funext fun k => ?_)
      blk_ext
  · refine (congrArg _ (Pay.eta x)).trans ((Pay.out0 _ _ _ _ _ _).trans ?_)
    refine congrArg₂ (fun a b : EReal => a + b) ((Pay.lo_at _ _ _).trans (by blk_ext)) (congrArg (fun a : EReal => _ * a) ?_)
    refine (congrArg (rms _ _ _) (Fin.ext h1.symm)).trans ?_
    refine congrArg (fun F => rms _ F _ _) (funext fun j => Finset.sum_congr rfl fun f _ => congrArg₂ (fun a b : EReal => a * b) ?_ rfl)
    refine (hid0 X x1 g u ⟨x 0, x0_lt⟩ f _ ?_ ?_).trans ?_
    · change 0 + 1 * (x 0 : ℕ) = (x 0 : ℕ); omega
    · change 0 + 1 * (f : ℕ) = _; omega
    · refine congrArg (fun F => FfnRow.hidden (rms _ F _) _ _) (funext fun k => ?_)
      blk_ext

end Cert.FfnIdeal.Rows
end
-- ==== Proof.FfnOutA.lean ====
module

public import proofs.«01_k».proof.Proof.Gen.FfnIdeal.Value
public import Idealize.ShloMosaic.Lib.Pipeline.Value
public import Idealize.ShloMosaic.Lib.Claim
public import proofs.«01_k».proof.Proof.FfnHid
public import Idealize.ShloMosaic.Lib.Pipeline.ValueKit
public import Idealize.ShloMosaic.Lib.Pointwise

@[expose] public section
set_option maxRecDepth 16384
noncomputable section
namespace Cert.FfnIdeal.Rows
open Cert.FfnIdeal Cert.FfnIdeal.Gen Cert.FfnRow
open Idealize.ShloMosaic Idealize.ShloMosaic.TcCoe Idealize.SL.Sem
open Idealize.ShloMosaic.Pipeline (Dat)

theorem whole (d : Vec Ideal S2816x1024 .bf16) :
    (fun j => d ((Rect.unit (s := S2816x1024) ![0, 0] ![2816, 1024] inb_S2816x1024_S2816x1024_0_0).idx j)) = d :=
  funext fun j => congrArg d (funext fun k => Fin.ext (by
    match k with
    | 0 => change 0 + 1 * (j 0 : ℕ) = (j 0 : ℕ); omega
    | 1 => change 0 + 1 * (j 1 : ℕ) = (j 1 : ℕ); omega))

set_option maxHeartbeats 40000000 in
/-- The first point: with the weights it has itself put there. -/
theorem outA (c : Dev nD) (t : Fin cfg0.N) (hc : cond0_0 (grid0.coords t)) (X : Vec Ideal S1024x1024 .f32) (x1 x2 : Vec Ideal S1x1024 .f32) (g u : Vec Ideal S1024x2816 .bf16) (d : Vec Ideal S2816x1024 .bf16) (fh0 : HbBuf0 (F := Ideal) c hbM0_0) (fh1 : HbBuf0 (F := Ideal) c hbM0_1) (fh2 : HbBuf0 (F := Ideal) c hbM0_2)
    (hg : sout0_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 fh0 fh1 fh2 = g)
    (hu : sout0_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 fh0 fh1 fh2 = u)
    (hd : sout0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 fh0 fh1 fh2 = d) (y : S1024x1024.Idx) :
    out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 fh0 fh1 fh2 y
      = FF X x1 g u d x2 ⟨y 0, by have := (y 0).isLt; simpa using this⟩ ⟨y 1, by have := (y 1).isLt; simpa using this⟩ := by
  frame_out at hg
  frame_out at hu
  frame_out at hd
  frame_out
  have hg' : ∀ B, View.readCov (View.whole cc0_scratch1) _ B = fun j => g (B.idx j) := fun B =>
    (View.readCov_eq_canon' _ _ B).trans (congrArg (fun C : S1024x2816.Idx → Elt Ideal .bf16 => fun j => C (B.idx j)) hg)
  have hu' : ∀ B, View.readCov (View.whole cc0_scratch2) _ B = fun j => u (B.idx j) := fun B =>
    (View.readCov_eq_canon' _ _ B).trans (congrArg (fun C : S1024x2816.Idx → Elt Ideal .bf16 => fun j => C (B.idx j)) hu)
  have hd' : ∀ B, View.readCov (View.whole cc0_scratch3) _ B = fun j => d (B.idx j) := fun B =>
    (View.readCov_eq_canon' _ _ B).trans (congrArg (fun C : S2816x1024.Idx → Elt Ideal .bf16 => fun j => C (B.idx j)) hd)
  have hd' := (hd' (Rect.unit (s := S2816x1024) ![0, 0] ![2816, 1024] inb_S2816x1024_S2816x1024_0_0).toLoadRect).trans (whole d)
  clear hg hu hd
  simp only [↓hg', ↓hu', ↓hd']
  clear hg' hu' hd'
  simp only [Pay.e52, Pay.e54, Pay.e56, Pay.e58, Pay.e59, Pay.e60, Pay.e62, Pay.e63, Pay.e64, Pay.e66, Pay.e72, Pay.e73, Pay.e74, Pay.e77, Pay.e78, Pay.e79, Pay.e82,
    Pay.e83, Pay.e84, Pay.e87, Pay.e88, Pay.e89, Pay.e1]
  simp only [View.readCov_eq_canon']
  exact core X x1 g u d x2 y
end Cert.FfnIdeal.Rows
end
-- ==== Proof.FfnOutB.lean ====
module

public import proofs.«01_k».proof.Proof.Gen.FfnIdeal.Value
public import Idealize.ShloMosaic.Lib.Pipeline.Value
public import Idealize.ShloMosaic.Lib.Claim
public import proofs.«01_k».proof.Proof.FfnHid
public import Idealize.ShloMosaic.Lib.Pipeline.ValueKit
public import Idealize.ShloMosaic.Lib.Pointwise

@[expose] public section
set_option maxRecDepth 16384
noncomputable section
namespace Cert.FfnIdeal.Rows
open Cert.FfnIdeal Cert.FfnIdeal.Gen Cert.FfnRow
open Idealize.ShloMosaic Idealize.ShloMosaic.TcCoe Idealize.SL.Sem
open Idealize.ShloMosaic.Pipeline (Dat)

set_option maxHeartbeats 40000000 in
/-- A later point: with the weights `g`, `u`, `d` it finds in its buffers. -/
theorem outB (c : Dev nD) (t : Fin cfg0.N) (hc : ¬cond0_0 (grid0.coords t)) (X : Vec Ideal S1024x1024 .f32) (x1 x2 : Vec Ideal S1x1024 .f32) (g u : Vec Ideal S1024x2816 .bf16) (d : Vec Ideal S2816x1024 .bf16) (fh0 : HbBuf0 (F := Ideal) c hbM0_0) (fh1 : HbBuf0 (F := Ideal) c hbM0_1) (fh2 : HbBuf0 (F := Ideal) c hbM0_2) (y : S1024x1024.Idx) :
    out0_B_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 g u d fh0 fh1 fh2 y
      = FF X x1 g u d x2 ⟨y 0, by have := (y 0).isLt; simpa using this⟩ ⟨y 1, by have := (y 1).isLt; simpa using this⟩ := by
  frame_out
  simp only [Pay.e52, Pay.e54, Pay.e56, Pay.e58, Pay.e59, Pay.e60, Pay.e62, Pay.e63, Pay.e64, Pay.e66, Pay.e72, Pay.e73, Pay.e74, Pay.e77, Pay.e78, Pay.e79, Pay.e82,
    Pay.e83, Pay.e84, Pay.e87, Pay.e88, Pay.e89, Pay.e1]
  simp only [wg, wu, wd, View.readCov_eq_canon']
  have e := core X x1 g u d x2 y
  simp only [half0, half1, List.cons_append, List.nil_append] at e
  exact e

end Cert.FfnIdeal.Rows
end
-- ==== Proof.FfnW.lean ====
module

public import proofs.«01_k».proof.Proof.Gen.FfnIdeal.Value
public import Idealize.ShloMosaic.Lib.Pipeline.Value
public import Idealize.ShloMosaic.Lib.Claim
public import proofs.«01_k».proof.Proof.FfnHid
public import Idealize.ShloMosaic.Lib.Pipeline.ValueKit
public import Idealize.ShloMosaic.Lib.Pointwise

@[expose] public section
set_option maxRecDepth 16384
noncomputable section
namespace Cert.FfnIdeal.Rows
open Cert.FfnIdeal Cert.FfnIdeal.Gen Cert.FfnRow
open Idealize.ShloMosaic Idealize.ShloMosaic.TcCoe Idealize.SL.Sem
open Idealize.ShloMosaic.Pipeline (Dat)

variable {sig' : RefSig} {κ' : Kind} {sp' : Space}

/-- Reading a staging slot back: its last store, past the stores into other slots. -/
theorem hit {S : Shape} {off : Fin S.rank → ℕ} {size : Fin S.rank → ℕ} (v : View sig' κ' sp' S .f32) (inb inb' : ∀ a, off a + size a ≤ S.size a)
    (w : (Rect.unit (s := S) off size inb).shape.Idx → Elt Ideal .f32) (L : List (View.Piece (Elt Ideal) S .f32)) :
    View.readCov v (⟨Rect.unit off size inb, w⟩ :: L) (Rect.unit off size inb').toLoadRect = w := by
  rw [View.readCov_eq_canon']
  exact funext fun j => View.canon_cons_emb (Rect.unit off size inb) w L j

theorem missG {a b : ℕ} (v : View sig' κ' sp' S4x64x2816 .f32) (inb : ∀ k, ![a, 0, 0] k + ![1, 64, 2816] k ≤ S4x64x2816.size k)
    (inb' : ∀ k, ![b, 0, 0] k + ![1, 64, 2816] k ≤ S4x64x2816.size k)
    (w : (Rect.unit (s := S4x64x2816) ![a, 0, 0] ![1, 64, 2816] inb).shape.Idx → Elt Ideal .f32) (L : List (View.Piece (Elt Ideal) S4x64x2816 .f32)) (h : a ≠ b) :
    View.readCov v (⟨Rect.unit ![a, 0, 0] ![1, 64, 2816] inb, w⟩ :: L) (Rect.unit ![b, 0, 0] ![1, 64, 2816] inb').toLoadRect
      = View.readCov v L (Rect.unit ![b, 0, 0] ![1, 64, 2816] inb').toLoadRect := by
  simp only [View.readCov_eq_canon']
  refine funext fun j => View.canon_cons_of_not_mem _ _ (Rect.not_mem_set_of_axis _ _ 0 a 1 rfl rfl rfl ?_)
  have hj : (j 0 : ℕ) < 1 := (j 0).isLt
  change b + 1 * (j 0 : ℕ) < a ∨ a + 1 ≤ b + 1 * (j 0 : ℕ)
  omega

theorem missD {a b : ℕ} (v : View sig' κ' sp' S4x176x1024 .f32) (inb : ∀ k, ![a, 0, 0] k + ![1, 176, 1024] k ≤ S4x176x1024.size k)
    (inb' : ∀ k, ![b, 0, 0] k + ![1, 176, 1024] k ≤ S4x176x1024.size k)
    (w : (Rect.unit (s := S4x176x1024) ![a, 0, 0] ![1, 176, 1024] inb).shape.Idx → Elt Ideal .f32) (L : List (View.Piece (Elt Ideal) S4x176x1024 .f32)) (h : a ≠ b) :
    View.readCov v (⟨Rect.unit ![a, 0, 0] ![1, 176, 1024] inb, w⟩ :: L) (Rect.unit ![b, 0, 0] ![1, 176, 1024] inb').toLoadRect
      = View.readCov v L (Rect.unit ![b, 0, 0] ![1, 176, 1024] inb').toLoadRect := by
  simp only [View.readCov_eq_canon']
  refine funext fun j => View.canon_cons_of_not_mem _ _ (Rect.not_mem_set_of_axis _ _ 0 a 1 rfl rfl rfl ?_)
  have hj : (j 0 : ℕ) < 1 := (j 0).isLt
  change b + 1 * (j 0 : ℕ) < a ∨ a + 1 ≤ b + 1 * (j 0 : ℕ)
  omega

/-- A staged chunk's entry, as the copy read it out of its operand. -/
theorem slotG (c : Dev nD) (fh : HbBuf0 (F := Ideal) c hbM0_0) (o : ℕ) (inb : ∀ k, ![o, 0, 0] k + ![1, 64, 2816] k ≤ S16x64x2816.size k)
    (ho : o < 16) (p : Fin 64) (q : Fin 2816) :
    ReadAs.same.apply (View.read (Elt Ideal) ((View.whole main_v2).slice (Rect.unit (s := S16x64x2816) ![o, 0, 0] ![1, 64, 2816] inb)) fh) (ix3 0 p q)
      = (show S16x64x2816.Idx → EReal from fh) (ix3 ⟨o, ho⟩ p q) := by
  change (show S16x64x2816.Idx → EReal from fh) ((Rect.unit (s := S16x64x2816) ![o, 0, 0] ![1, 64, 2816] inb).emb (ix3 0 p q)) = _
  refine congrArg _ (funext fun k => Fin.ext ?_)
  match k with
  | 0 => change o + 1 * 0 = o; omega
  | 1 => change 0 + 1 * (p : ℕ) = p; omega
  | 2 => change 0 + 1 * (q : ℕ) = q; omega

theorem slotU (c : Dev nD) (fh : HbBuf0 (F := Ideal) c hbM0_1) (o : ℕ) (inb : ∀ k, ![o, 0, 0] k + ![1, 64, 2816] k ≤ S16x64x2816.size k)
    (ho : o < 16) (p : Fin 64) (q : Fin 2816) :
    ReadAs.same.apply (View.read (Elt Ideal) ((View.whole main_v3).slice (Rect.unit (s := S16x64x2816) ![o, 0, 0] ![1, 64, 2816] inb)) fh) (ix3 0 p q)
      = (show S16x64x2816.Idx → EReal from fh) (ix3 ⟨o, ho⟩ p q) := by
  change (show S16x64x2816.Idx → EReal from fh) ((Rect.unit (s := S16x64x2816) ![o, 0, 0] ![1, 64, 2816] inb).emb (ix3 0 p q)) = _
  refine congrArg _ (funext fun k => Fin.ext ?_)
  match k with
  | 0 => change o + 1 * 0 = o; omega
  | 1 => change 0 + 1 * (p : ℕ) = p; omega
  | 2 => change 0 + 1 * (q : ℕ) = q; omega

theorem slotD (c : Dev nD) (fh : HbBuf0 (F := Ideal) c hbM0_2) (o : ℕ) (inb : ∀ k, ![o, 0, 0] k + ![1, 176, 1024] k ≤ S16x176x1024.size k)
    (ho : o < 16) (p : Fin 176) (q : Fin 1024) :
    ReadAs.same.apply (View.read (Elt Ideal) ((View.whole main_v4).slice (Rect.unit (s := S16x176x1024) ![o, 0, 0] ![1, 176, 1024] inb)) fh) (ix3 0 p q)
      = (show S16x176x1024.Idx → EReal from fh) (ix3 ⟨o, ho⟩ p q) := by
  change (show S16x176x1024.Idx → EReal from fh) ((Rect.unit (s := S16x176x1024) ![o, 0, 0] ![1, 176, 1024] inb).emb (ix3 0 p q)) = _
  refine congrArg _ (funext fun k => Fin.ext ?_)
  match k with
  | 0 => change o + 1 * 0 = o; omega
  | 1 => change 0 + 1 * (p : ℕ) = p; omega
  | 2 => change 0 + 1 * (q : ℕ) = q; omega

set_option maxHeartbeats 40000000 in
/-- The gate's weights as the first point leaves them in its buffer: the sixteen chunks under one another. -/
theorem gate (c : Dev nD) (t : Fin cfg0.N) (hc : cond0_0 (grid0.coords t)) (X : Vec Ideal S1024x1024 .f32) (x1 x2 : Vec Ideal S1x1024 .f32) (fh0 : HbBuf0 (F := Ideal) c hbM0_0) (fh1 : HbBuf0 (F := Ideal) c hbM0_1) (fh2 : HbBuf0 (F := Ideal) c hbM0_2) (y : S1024x2816.Idx) :
    sout0_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 fh0 fh1 fh2 y = (show S16x64x2816.Idx → EReal from fh0) (ix3 ⟨(y 0 : ℕ) / 64, by have : (y 0 : ℕ) < 1024 := (y 0).isLt; omega⟩ ⟨(y 0 : ℕ) % 64, by omega⟩ ⟨y 1, by have := (y 1).isLt; simpa using this⟩) := by
  frame_out
  have y0lt : (y 0 : ℕ) < 1024 := (y 0).isLt
  canon_tiles x h
  all_goals
    simp (disch := decide) only [missG, hit]
    open_payloads
    pointwise
    refine (slotG _ _ _ _ (by decide) ⟨x 0, x0_lt⟩ ⟨x 1, x1_lt⟩).trans ?_
    blk_ext

set_option maxHeartbeats 40000000 in
/-- The other input weights as the first point leaves them in its buffer: the sixteen chunks under one another. -/
theorem up (c : Dev nD) (t : Fin cfg0.N) (hc : cond0_0 (grid0.coords t)) (X : Vec Ideal S1024x1024 .f32) (x1 x2 : Vec Ideal S1x1024 .f32) (fh0 : HbBuf0 (F := Ideal) c hbM0_0) (fh1 : HbBuf0 (F := Ideal) c hbM0_1) (fh2 : HbBuf0 (F := Ideal) c hbM0_2) (y : S1024x2816.Idx) :
    sout0_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 fh0 fh1 fh2 y = (show S16x64x2816.Idx → EReal from fh1) (ix3 ⟨(y 0 : ℕ) / 64, by have : (y 0 : ℕ) < 1024 := (y 0).isLt; omega⟩ ⟨(y 0 : ℕ) % 64, by omega⟩ ⟨y 1, by have := (y 1).isLt; simpa using this⟩) := by
  frame_out
  have y0lt : (y 0 : ℕ) < 1024 := (y 0).isLt
  canon_tiles x h
  all_goals
    simp (disch := decide) only [missG, hit]
    open_payloads
    pointwise
    refine (slotU _ _ _ _ (by decide) ⟨x 0, x0_lt⟩ ⟨x 1, x1_lt⟩).trans ?_
    blk_ext

set_option maxHeartbeats 40000000 in
/-- The output weights as the first point leaves them in its buffer: the sixteen chunks under one another. -/
theorem down (c : Dev nD) (t : Fin cfg0.N) (hc : cond0_0 (grid0.coords t)) (X : Vec Ideal S1024x1024 .f32) (x1 x2 : Vec Ideal S1x1024 .f32) (fh0 : HbBuf0 (F := Ideal) c hbM0_0) (fh1 : HbBuf0 (F := Ideal) c hbM0_1) (fh2 : HbBuf0 (F := Ideal) c hbM0_2) (y : S2816x1024.Idx) :
    sout0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 fh0 fh1 fh2 y = (show S16x176x1024.Idx → EReal from fh2) (ix3 ⟨(y 0 : ℕ) / 176, by have : (y 0 : ℕ) < 2816 := (y 0).isLt; omega⟩ ⟨(y 0 : ℕ) % 176, by omega⟩ ⟨y 1, by have := (y 1).isLt; simpa using this⟩) := by
  frame_out
  have y0lt : (y 0 : ℕ) < 2816 := (y 0).isLt
  canon_tiles x h
  all_goals
    simp (disch := decide) only [missD, hit]
    open_payloads
    pointwise
    refine (slotD _ _ _ _ (by decide) ⟨x 0, x0_lt⟩ ⟨x 1, x1_lt⟩).trans ?_
    blk_ext

end Cert.FfnIdeal.Rows
end
-- ==== Proof.FfnHost.lean ====
module

public import proofs.«01_k».proof.Proof.Gen.FfnIdeal.Value
public import Idealize.ShloMosaic.Lib.Pipeline.Value
public import Idealize.ShloMosaic.Lib.Pipeline.ValueKit
public import Idealize.ShloMosaic.Lib.Pointwise
public import Idealize.ShloMosaic.Lib.Claim

@[expose] public section
set_option maxRecDepth 16384
noncomputable section
namespace Cert.FfnIdeal.HostIn
open Cert.FfnIdeal Cert.FfnIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

set_option maxHeartbeats 1000000

/-- The layer's rows, one after another. -/
theorem x_at (r : Fin 16384) (j : Fin 1024) : (V m c main_v0 (ix2 r j) : EReal) = m ((c : Thread nD τ).loc main_arg0) (ix3 ⟨r / 8192, by omega⟩ ⟨r % 8192, by omega⟩ j) := by
  simp only [V, hostOps0, List.flatten_cons, List.flatten_nil, List.append_nil, List.cons_append, List.nil_append]
  entry_read
  pointwise

/-- The gains, as a row. -/
theorem pg_at (k : Fin 1024) : (V m c main_v1 (ix2 0 k) : EReal) = m ((c : Thread nD τ).loc main_arg1) (ix1 k) := by
  simp only [V, hostOps0, List.flatten_cons, List.flatten_nil, List.append_nil, List.cons_append, List.nil_append]
  entry_read
  pointwise

/-- The gains, as a row. -/
theorem qg_at (k : Fin 1024) : (V m c main_v5 (ix2 0 k) : EReal) = m ((c : Thread nD τ).loc main_arg5) (ix1 k) := by
  simp only [V, hostOps0, List.flatten_cons, List.flatten_nil, List.append_nil, List.cons_append, List.nil_append]
  entry_read
  pointwise

/-- The gate's weights, in 16 chunks of rows. -/
theorem wg_at (s : Fin 16) (k : Fin 64) (f : Fin 2816) : (V m c main_v2 (ix3 s k f) : EReal) = m ((c : Thread nD τ).loc main_arg2) (ix2 ⟨s * 64 + k, by omega⟩ f) := by
  simp only [V, hostOps0, List.flatten_cons, List.flatten_nil, List.append_nil, List.cons_append, List.nil_append]
  entry_read
  pointwise

/-- The other input weights, in 16 chunks of rows. -/
theorem wu_at (s : Fin 16) (k : Fin 64) (f : Fin 2816) : (V m c main_v3 (ix3 s k f) : EReal) = m ((c : Thread nD τ).loc main_arg3) (ix2 ⟨s * 64 + k, by omega⟩ f) := by
  simp only [V, hostOps0, List.flatten_cons, List.flatten_nil, List.append_nil, List.cons_append, List.nil_append]
  entry_read
  pointwise

/-- The output weights, in 16 chunks of rows. -/
theorem wd_at (s : Fin 16) (k : Fin 176) (f : Fin 1024) : (V m c main_v4 (ix3 s k f) : EReal) = m ((c : Thread nD τ).loc main_arg4) (ix2 ⟨s * 176 + k, by omega⟩ f) := by
  simp only [V, hostOps0, List.flatten_cons, List.flatten_nil, List.append_nil, List.cons_append, List.nil_append]
  entry_read
  pointwise

end Cert.FfnIdeal.HostIn
end
-- ==== Proof.FfnCarry.lean ====
module

public import proofs.«01_k».proof.Proof.FfnW
public import proofs.«01_k».proof.Proof.FfnHost

@[expose] public section
set_option maxRecDepth 16384
noncomputable section
namespace Cert.FfnIdeal.Block
open Cert.FfnIdeal Cert.FfnIdeal.Gen Cert.FfnRow Cert.FfnIdeal.Rows
open Idealize.ShloMosaic Idealize.ShloMosaic.TcCoe Idealize.SL.Sem

variable (m : (ℓ : Loc nD τ sig) → Buf (Elt Ideal) ℓ) (c : Dev nD)

/-- The gate's weights, the other input weights and the output weights, as the buffers hold them. -/
def G : Vec Ideal S1024x2816 .bf16 := fun y => (m ((c : Thread nD τ).loc main_arg2) y : EReal)
def U : Vec Ideal S1024x2816 .bf16 := fun y => (m ((c : Thread nD τ).loc main_arg3) y : EReal)
def D : Vec Ideal S2816x1024 .bf16 := fun y => (m ((c : Thread nD τ).loc main_arg4) y : EReal)

theorem gateG (t : Fin cfg0.N) (hc) (X : Vec Ideal S1024x1024 .f32) (x1 x2 : Vec Ideal S1x1024 .f32) :
    sout0_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 (V m c main_v2) (V m c main_v3) (V m c main_v4) = G m c := by
  funext y
  refine (gate c t hc X x1 x2 _ _ _ y).trans ?_
  refine (HostIn.wg_at m c _ _ _).trans ?_
  have y0 : (y 0 : ℕ) < 1024 := (y 0).isLt
  refine congrArg (m ((c : Thread nD τ).loc main_arg2)) (funext fun k => Fin.ext ?_)
  match k with
  | 0 => change (y 0 : ℕ) / 64 * 64 + (y 0 : ℕ) % 64 = y 0; omega
  | 1 => rfl

theorem upU (t : Fin cfg0.N) (hc) (X : Vec Ideal S1024x1024 .f32) (x1 x2 : Vec Ideal S1x1024 .f32) :
    sout0_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 (V m c main_v2) (V m c main_v3) (V m c main_v4) = U m c := by
  funext y
  refine (up c t hc X x1 x2 _ _ _ y).trans ?_
  refine (HostIn.wu_at m c _ _ _).trans ?_
  have y0 : (y 0 : ℕ) < 1024 := (y 0).isLt
  refine congrArg (m ((c : Thread nD τ).loc main_arg3)) (funext fun k => Fin.ext ?_)
  match k with
  | 0 => change (y 0 : ℕ) / 64 * 64 + (y 0 : ℕ) % 64 = y 0; omega
  | 1 => rfl

theorem downD (t : Fin cfg0.N) (hc) (X : Vec Ideal S1024x1024 .f32) (x1 x2 : Vec Ideal S1x1024 .f32) :
    sout0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc X x1 x2 (V m c main_v2) (V m c main_v3) (V m c main_v4) = D m c := by
  funext y
  refine (down c t hc X x1 x2 _ _ _ y).trans ?_
  refine (HostIn.wd_at m c _ _ _).trans ?_
  have y0 : (y 0 : ℕ) < 2816 := (y 0).isLt
  refine congrArg (m ((c : Thread nD τ).loc main_arg4)) (funext fun k => Fin.ext ?_)
  match k with
  | 0 => change (y 0 : ℕ) / 176 * 176 + (y 0 : ℕ) % 176 = y 0; omega
  | 1 => rfl

/-- Every point leaves the weights in their buffers. -/
theorem carried (n : ℕ) (hn : n < cfg0.N) : (outsAt0 m c n hn).2 = (G m c, U m c, D m c) := by
  induction n with
  | zero =>
    have e := outsAt0_A m c ⟨0, hn⟩ rfl
    rw [gateG, upU, downD] at e
    exact congrArg Prod.snd e
  | succ n ih =>
    have hN : cfg0.N = 16 := N_0
    have e := outsAt0_B m c ⟨n + 1, hn⟩ (by simp only; omega)
    unfold sout0_B_1 sout0_B_2 sout0_B_3 at e
    have ih' : (outsAt0 m c ((⟨n + 1, hn⟩ : Fin cfg0.N).val - 1) (Nat.lt_of_le_of_lt (Nat.sub_le _ _) hn)).2 = (G m c, U m c, D m c) := ih (by omega)
    rw [ih'] at e
    exact congrArg Prod.snd e

end Cert.FfnIdeal.Block
end
-- ==== Proof.FfnOuts.lean ====
module

public import proofs.«01_k».proof.Proof.FfnOutA
public import proofs.«01_k».proof.Proof.FfnOutB
public import proofs.«01_k».proof.Proof.FfnCarry

@[expose] public section
set_option maxRecDepth 16384
noncomputable section
namespace Cert.FfnIdeal.Block
open Cert.FfnIdeal Cert.FfnIdeal.Gen Cert.FfnRow Cert.FfnIdeal.Rows
open Idealize.ShloMosaic Idealize.ShloMosaic.TcCoe Idealize.SL.Sem

variable (m : (ℓ : Loc nD τ sig) → Buf (Elt Ideal) ℓ) (c : Dev nD)

set_option maxHeartbeats 1000000 in
/-- What a point leaves in the output's block: the feed-forward half of its rows. -/
theorem outs (t : Fin cfg0.N) (y : S1024x1024.Idx) :
    (outsAt0 m c t.val t.isLt).1 y = FF (iblk m c 0 t) (iblk m c 1 t) (G m c) (U m c) (D m c) (iblk m c 2 t)
      ⟨y 0, by have := (y 0).isLt; simpa using this⟩ ⟨y 1, by have := (y 1).isLt; simpa using this⟩ := by
  by_cases h0 : t.val % 16 = 0
  · rw [outsAt0_A m c t h0]
    dsimp only
    exact outA c t ((hcond0_0 t).mpr h0) (iblk m c 0 t) (iblk m c 1 t) (iblk m c 2 t) (G m c) (U m c) (D m c) (V m c main_v2) (V m c main_v3)
      (V m c main_v4) (gateG m c t _ _ _ _) (upU m c t _ _ _ _) (downD m c t _ _ _ _) y
  · rw [outsAt0_B m c t h0, carried]
    dsimp only
    exact outB c t (fun h => h0 ((hcond0_0 t).mp h)) (iblk m c 0 t) (iblk m c 1 t) (iblk m c 2 t) (G m c) (U m c) (D m c) (V m c main_v2)
      (V m c main_v3) (V m c main_v4) y

end Cert.FfnIdeal.Block
end
-- ==== Proof.FfnRead.lean ====
module

public import proofs.«01_k».proof.Proof.Gen.FfnRefIdeal.Run
public import proofs.«01_k».proof.Proof.FfnRow
public import Idealize.ShloMosaic.Lib.Pipeline.Value
public import Idealize.ShloMosaic.Lib.Pipeline.ValueKit
public import Idealize.ShloMosaic.Lib.Pointwise
public import Idealize.ShloMosaic.Lib.Claim

@[expose] public section
set_option maxRecDepth 16384
noncomputable section
namespace Cert.FfnRefIdeal.Read
open Cert.FfnRefIdeal Cert.FfnRefIdeal.Gen Cert.FfnRow
open Idealize.ShloMosaic Idealize.ShloMosaic.TcCoe Idealize.SL.Sem
open Idealize.ShloMosaic.Pipeline (Dat)

/-- The layer's rows over their root mean squares, times the gains. -/
def NR (x : FVec Ideal S2x8192x1024 .f32) (g : FVec Ideal S1024 .f32) : FVec Ideal S2x8192x1024 .f32 :=
  mulf (F := Ideal) (mulf (F := Ideal) x (broadcastInDim S2x8192x1024 ![0, 1, 2] bcast_S2x8192x1_S2x8192x1024_0_1_2 (Host.rsqrt (F := Ideal) (addf (F := Ideal) (Host.divf (F := Ideal) (broadcastInDim S2x8192x1 ![0, 1] bcast_S2x8192_S2x8192x1_0_1 (Host.reduceAdd (F := Ideal) (mulf (F := Ideal) x x) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))
/-- A product with one of the hidden layer's input weights. -/
def UP (x : FVec Ideal S2x8192x1024 .f32) (w : FVec Ideal S1024x2816 .f32) : FVec Ideal S2x8192x2816 .f32 :=
  Host.dotGeneral (F := Ideal) dot_S2x8192x1024_S1024x2816_S2x8192x2816_2_0_01_1_n_n none x w
/-- The hidden layer, of its two products. -/
def ACT (p q : FVec Ideal S2x8192x2816 .f32) : FVec Ideal S2x8192x2816 .f32 :=
  mulf (F := Ideal) (mulf (F := Ideal) p (Host.divf (F := Ideal) (broadcastInDim S2x8192x2816 ![] bcast_S_S2x8192x2816 (constant (F := Ideal) S_ .f32 0x3F800000#32)) (addf (F := Ideal) (broadcastInDim S2x8192x2816 ![] bcast_S_S2x8192x2816 (constant (F := Ideal) S_ .f32 0x3F800000#32)) (Host.exp (F := Ideal) (Host.negf (F := Ideal) p))))) q
/-- The hidden layer's product with the output weights. -/
def DOWN (h : FVec Ideal S2x8192x2816 .f32) (w : FVec Ideal S2816x1024 .f32) : FVec Ideal S2x8192x1024 .f32 :=
  Host.dotGeneral (F := Ideal) dot_S2x8192x2816_S2816x1024_S2x8192x1024_2_0_01_1_n_n none h w
/-- The feed-forward half of the layer. -/
def FFN (x : FVec Ideal S2x8192x1024 .f32) (pg : FVec Ideal S1024 .f32) (wg wu : FVec Ideal S1024x2816 .f32) (wd : FVec Ideal S2816x1024 .f32) (qg : FVec Ideal S1024 .f32) : FVec Ideal S16384x1024 .f32 :=
  shapeCast _ (addf (F := Ideal) x (mulf (F := Ideal) (broadcastInDim S2x8192x1024 ![] bcast_S_S2x8192x1024 (constant (F := Ideal) S_ .f32 0x3F000000#32)) (NR (DOWN (ACT (UP (NR x pg) wg) (UP (NR x pg) wu)) wd) qg))) shapeCasts_S2x8192x1024_S16384x1024

theorem NR_at (x : FVec Ideal S2x8192x1024 .f32) (g : FVec Ideal S1024 .f32) (b : Fin 2) (n : Fin 8192) (j : Fin 1024) :
    NR x g (ix3 b n j) = rms (Ideal.ofBits .f32 0x44800000#32) (fun k => (x (ix3 b n k) : EReal)) (fun k => g (ix1 k)) j := by
  pointwise [NR]
  rfl

theorem UP_at (x : FVec Ideal S2x8192x1024 .f32) (w : FVec Ideal S1024x2816 .f32) (b : Fin 2) (n : Fin 8192) (f : Fin 2816) :
    UP x w (ix3 b n f) = ∑ k : Fin 1024, (x (ix3 b n k) : EReal) * w (ix2 k f) := by
  pointwise [UP]

theorem DOWN_at (h : FVec Ideal S2x8192x2816 .f32) (w : FVec Ideal S2816x1024 .f32) (b : Fin 2) (n : Fin 8192) (j : Fin 1024) :
    DOWN h w (ix3 b n j) = ∑ f : Fin 2816, (h (ix3 b n f) : EReal) * w (ix2 f j) := by
  pointwise [DOWN]

theorem ACT_at (p q : FVec Ideal S2x8192x2816 .f32) (b : Fin 2) (n : Fin 8192) (f : Fin 2816) :
    ACT p q (ix3 b n f) = (p (ix3 b n f) : EReal) * Ideal.logistic (p (ix3 b n f)) * q (ix3 b n f) := by
  pointwise [ACT]
  rfl

theorem FFN_at (x : FVec Ideal S2x8192x1024 .f32) (pg : FVec Ideal S1024 .f32) (wg wu : FVec Ideal S1024x2816 .f32) (wd : FVec Ideal S2816x1024 .f32) (qg : FVec Ideal S1024 .f32)
    (r : Fin 16384) (j : Fin 1024) :
    FFN x pg wg wu wd qg (ix2 r j) = ffn (fun k => (x (ix3 ⟨r / 8192, by omega⟩ ⟨r % 8192, by omega⟩ k) : EReal)) (fun k => pg (ix1 k))
      (fun k f => wg (ix2 k f)) (fun k f => wu (ix2 k f)) (fun f j => wd (ix2 f j)) (fun k => qg (ix1 k)) j := by
  pointwise [FFN]
  rw [NR_at]
  simp only [DOWN_at, ACT_at, UP_at, NR_at]
  rfl

end Cert.FfnRefIdeal.Read
end
-- ==== Proof.FfnFinal.lean ====
module

public import proofs.«01_k».proof.Proof.FfnOuts
public import proofs.«01_k».proof.Proof.FfnHost
public import proofs.«01_k».proof.Proof.FfnRead

@[expose] public section
set_option maxRecDepth 16384
noncomputable section
namespace Cert.FfnIdeal.Block
open Cert.FfnIdeal Cert.FfnIdeal.Gen Cert.FfnRow Cert.FfnIdeal.Rows
open Idealize.ShloMosaic Idealize.ShloMosaic.TcCoe Idealize.SL.Sem

variable (m : (ℓ : Loc nD τ sig) → Buf (Elt Ideal) ℓ) (c : Dev nD)

/-- The blocks the windows read at a grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

set_option maxHeartbeats 1000000 in
/-- The kernel's result array is the reference's. -/
theorem final : (dats m 0 c).arrAt 3 cfg0.N = Cert.FfnRefIdeal.Read.FFN (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 3 _ (by decide +kernel) fun t _ y => ?_
  blk_simp
  rw [after0_3]
  have hN : cfg0.N = 16 := N_0
  have ht : t.val < 16 := lt_of_lt_of_eq t.isLt hN
  have e := outs m c t y
  obtain ⟨i0, i1, i2, i3⟩ := idx t
  have y0 : (y 0 : ℕ) < 1024 := (y 0).isLt
  have y1 : (y 1 : ℕ) < 1024 := (y 1).isLt
  refine e.trans (Eq.trans ?_ ((Cert.FfnRefIdeal.Read.FFN_at (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    ⟨t.val * 1024 + (y 0 : ℕ), by omega⟩ ⟨y 1, y1⟩).symm.trans ?_))
  · have e0 : (fun k => (iblk m c 0 t (ix2 ⟨y 0, y0⟩ k) : EReal)) = fun k => m ((c : Thread nD τ).loc main_arg0)
        (ix3 ⟨(t.val * 1024 + (y 0 : ℕ)) / 8192, by omega⟩ ⟨(t.val * 1024 + (y 0 : ℕ)) % 8192, by omega⟩ k) := by
      funext k
      refine Eq.trans ?_ (HostIn.x_at m c ⟨t.val * 1024 + (y 0 : ℕ), by omega⟩ k)
      blk_ext [iblk, i0]
    have e1 : (fun k => (iblk m c 1 t (ix2 0 k) : EReal)) = fun k => m ((c : Thread nD τ).loc main_arg1) (ix1 k) := by
      funext k
      refine Eq.trans ?_ (HostIn.pg_at m c k)
      blk_ext [iblk, i1]
    have e2 : (fun k => (iblk m c 2 t (ix2 0 k) : EReal)) = fun k => m ((c : Thread nD τ).loc main_arg5) (ix1 k) := by
      funext k
      refine Eq.trans ?_ (HostIn.qg_at m c k)
      blk_ext [iblk, i2]
    unfold FF
    rw [e0, e1, e2]
    rfl
  · blk_ext [i3]
end Cert.FfnIdeal.Block
end
-- ==== Proof.FfnClaim.lean ====
module

public import proofs.«01_k».proof.Defs
public import proofs.«01_k».proof.Proof.FfnFinal
public import proofs.«01_k».proof.Proof.Gen.FfnRefIdeal.Run

@[expose] public section
set_option maxRecDepth 16384
noncomputable section
namespace Cert.FfnClaim
open Idealize.ShloMosaic Idealize.ShloMosaic.TcCoe Idealize.SL.Sem

/-- The facts of the programs, as the generated modules prove them. -/
local instance : Cert.FfnIdeal.Facts := Cert.FfnIdeal.Gen.facts
local instance : Cert.FfnRefIdeal.Facts := Cert.FfnRefIdeal.Gen.facts

/-- The idealized kernel's result is the idealized reference's. -/
theorem algebraic : Cert.algebraic_FfnIdeal_FfnRefIdeal := by
  intro m ρ m' ρ' _ hagree
  refine ⟨_, Cert.FfnIdeal.Value.run_blocks m ρ, ?_⟩
  refine (θ_run Cert.FfnRefIdeal.defs _ _).mono (fun _ h c => ⟨(h c).1.trans ?_, (h c).2⟩) (Cert.FfnRefIdeal.Value.run (F := Ideal) m' ρ')
  rw [Cert.FfnIdeal.Block.final m c]
  obtain ⟨a0, a1, a2, a3, a4, a5⟩ := hagree c
  rw [← a0, ← a1, ← a2, ← a3, ← a4, ← a5]
  rfl
end Cert.FfnClaim
end
-- ==== Proof.MixPay2.lean ====
module

public import proofs.«01_k».proof.Proof.Gen.MixFfnIdeal.Skeleton
public import proofs.«01_k».proof.Proof.FfnRow
public import Idealize.ShloMosaic.Lib.Pipeline.ValueKit

@[expose] public section
set_option maxRecDepth 16384
noncomputable section
namespace Cert.MixFfnIdeal.Pay
open Cert.MixFfnIdeal Cert.MixFfnIdeal.Gen Cert.FfnRow
open Idealize.ShloMosaic Idealize.ShloMosaic.TcCoe Idealize.SL.Sem

/-- A hidden unit: the gate's product through its logistic, times the other product. -/
theorem hid (x : Vec Ideal S512x1024 .bf16) (g u : Vec Ideal S1024x256 .bf16) (r : Fin 512) (f : Fin 256) :
    k0_pay76 (F := Ideal) x g u (ix2 r f) = hidden (fun k => x (ix2 r k)) (fun k => g (ix2 k f)) (fun k => u (ix2 k f)) := by
  pointwise [k0_pay76]; rfl

/-- The first part's output row. -/
theorem out0 (x : FVec Ideal S512x1024 .f32) (h : Vec Ideal S512x2816 .bf16) (w : Vec Ideal S2816x1024 .bf16) (g : Vec Ideal S1x1024 .f32) (r : Fin 512) (j : Fin 1024) :
    k0_pay77 (F := Ideal) x h w g (ix2 r j) = (x (ix2 r j) : EReal) + Ideal.ofBits .f32 0x3F000000#32 *
      rms (Ideal.ofBits .f32 0x44800000#32) (fun j => ∑ f, (h (ix2 r f) : EReal) * w (ix2 f j)) (fun j => g (ix2 0 j)) j := by
  pointwise [k0_pay77]; rfl

/-- The first 512 rows, and the second. -/
def lo (X : FVec Ideal S1024x1024 .f32) : FVec Ideal S512x1024 .f32 :=
  extractStridedSlice S512x1024 ![0, 0] X slices_S1024x1024_o0_0_S512x1024

variable (n : FVec Ideal S512x1024 .bf16) (X : FVec Ideal S1024x1024 .f32) (z : FVec Ideal S512x1024 .f32) (v : Vec Ideal S1x1024 .f32)
  (g u : Vec Ideal S1024x256 .bf16)

theorem e64 (a : FVec Ideal S1024x1024 .f32) (b0 b1 b2 b3 b4 b5 b6 : FVec Ideal S128x512 .bf16) (b7 : Vec Ideal S1x512x128 .f32)
    (b8 : Vec Ideal S1x512 .f32) (b9 : Vec Ideal S512x1024 .bf16) (x : Vec Ideal S1024x1024 .f32) :
    k0_pay64 (F := Ideal) a b0 b1 b2 b3 b4 b5 b6 b7 b8 b9 x v = lo (k0_pay63 (F := Ideal) a b0 b1 b2 b3 b4 b5 b6 b7 b8 b9 x v) := rfl
theorem e66 : k0_pay66 (F := Ideal) z v g u = k0_pay76 (k0_pay65 z v) g u := rfl
theorem e67 : k0_pay67 (F := Ideal) z v g u = k0_pay76 (k0_pay65 z v) g u := rfl
theorem e68 : k0_pay68 (F := Ideal) n g u = k0_pay76 n g u := rfl
theorem e69 : k0_pay69 (F := Ideal) n g u = k0_pay76 n g u := rfl
theorem e70 : k0_pay70 (F := Ideal) n g u = k0_pay76 n g u := rfl
theorem e71 : k0_pay71 (F := Ideal) n g u = k0_pay76 n g u := rfl
theorem e72 : k0_pay72 (F := Ideal) n g u = k0_pay76 n g u := rfl
theorem e73 : k0_pay73 (F := Ideal) n g u = k0_pay76 n g u := rfl
theorem e74 : k0_pay74 (F := Ideal) n g u = k0_pay76 n g u := rfl
theorem e75 : k0_pay75 (F := Ideal) n g u = k0_pay76 n g u := rfl
theorem e81 : k0_pay81 (F := Ideal) (k0_pay79 X v) (k0_pay80 X v g) u = k0_pay76 (k0_pay79 X v) g u := rfl
theorem e82 : k0_pay82 (F := Ideal) n g u = k0_pay76 n g u := rfl
theorem e83 : k0_pay83 (F := Ideal) n g u = k0_pay76 n g u := rfl
theorem e85 : k0_pay85 (F := Ideal) n (k0_pay84 n g) u = k0_pay76 n g u := rfl
theorem e86 : k0_pay86 (F := Ideal) n g u = k0_pay76 n g u := rfl
theorem e87 : k0_pay87 (F := Ideal) n g u = k0_pay76 n g u := rfl
theorem e89 : k0_pay89 (F := Ideal) n (k0_pay88 n g) u = k0_pay76 n g u := rfl
theorem e90 : k0_pay90 (F := Ideal) n g u = k0_pay76 n g u := rfl
theorem e91 : k0_pay91 (F := Ideal) n g u = k0_pay76 n g u := rfl
theorem e93 : k0_pay93 (F := Ideal) n (k0_pay92 n g) u = k0_pay76 n g u := rfl
theorem e94 : k0_pay94 (F := Ideal) n g u = k0_pay76 n g u := rfl
theorem e79 : k0_pay79 (F := Ideal) X v = k0_pay65 (k0_pay78 X) v := rfl
theorem e1 (z : FVec Ideal S512x1024 .f32) (h : Vec Ideal S512x2816 .bf16) (w : Vec Ideal S2816x1024 .bf16) :
    k0_pay1 (F := Ideal) z (k0_pay95 v) (k0_pay96 h w) = k0_pay77 z h w v := rfl

/-- A row of the hidden layer's input, normalized. -/
theorem norm (r : Fin 512) (k : Fin 1024) : k0_pay65 (F := Ideal) z v (ix2 r k)
    = rms (Ideal.ofBits .f32 0x44800000#32) (fun k => z (ix2 r k)) (fun k => v (ix2 0 k)) k := by
  pointwise [k0_pay65]; rfl
theorem lo_at (r : Fin 512) (k : Fin 1024) : lo X (ix2 r k) = X (ix2 ⟨r, by omega⟩ k) := by
  pointwise [lo]; blk_ext
theorem hi_at (r : Fin 512) (k : Fin 1024) : k0_pay78 (F := Ideal) X (ix2 r k) = X (ix2 ⟨512 + r, by omega⟩ k) := by
  pointwise [k0_pay78]; blk_ext

theorem eta (i : S512x1024.Idx) :
    i = ix2 ⟨i 0, by have := (i 0).isLt; simpa using this⟩ ⟨i 1, by have := (i 1).isLt; simpa using this⟩ := by
  funext k; match k with
  | 0 => rfl
  | 1 => rfl
theorem eta' (i : S512x256.Idx) :
    i = ix2 ⟨i 0, by have := (i 0).isLt; simpa using this⟩ ⟨i 1, by have := (i 1).isLt; simpa using this⟩ := by
  funext k; match k with
  | 0 => rfl
  | 1 => rfl

end Cert.MixFfnIdeal.Pay
end
-- ==== Proof.MixCov.lean ====
module

public import proofs.«01_k».proof.Proof.Gen.MixFfnIdeal.Value
public import Idealize.ShloMosaic.Lib.Pipeline.Value
public import Idealize.ShloMosaic.Lib.Claim
public import proofs.«01_k».proof.Proof.MixPay2
public import Idealize.ShloMosaic.Lib.Pipeline.ValueKit
public import Idealize.ShloMosaic.Lib.Pointwise

@[expose] public section
set_option maxRecDepth 16384
noncomputable section
namespace Cert.MixFfnIdeal.Cov
open Cert.MixFfnIdeal Cert.MixFfnIdeal.Gen Cert.FfnRow
open Idealize.ShloMosaic Idealize.ShloMosaic.TcCoe Idealize.SL.Sem
open Idealize.ShloMosaic.Pipeline (Dat)

/-- The first part's stores cover its rows. -/
theorem cov (w0 w1 w2 w3 w4 w5 w6 w7 w8 w9 w10 : FVec Ideal S512x256 .bf16) (i : S1024x2816.Idx) (h : (i 0 : ℕ) < 512) :
    ∃ p ∈ ([⟨Rect.unit ![0, 2560] ![512, 256] inb_S1024x2816_S512x256_0_2560, w0⟩,
        ⟨Rect.unit ![0, 2304] ![512, 256] inb_S1024x2816_S512x256_0_2304, w1⟩,
        ⟨Rect.unit ![0, 2048] ![512, 256] inb_S1024x2816_S512x256_0_2048, w2⟩,
        ⟨Rect.unit ![0, 1792] ![512, 256] inb_S1024x2816_S512x256_0_1792, w3⟩,
        ⟨Rect.unit ![0, 1536] ![512, 256] inb_S1024x2816_S512x256_0_1536, w4⟩,
        ⟨Rect.unit ![0, 1280] ![512, 256] inb_S1024x2816_S512x256_0_1280, w5⟩,
        ⟨Rect.unit ![0, 1024] ![512, 256] inb_S1024x2816_S512x256_0_1024, w6⟩,
        ⟨Rect.unit ![0, 768] ![512, 256] inb_S1024x2816_S512x256_0_768, w7⟩,
        ⟨Rect.unit ![0, 512] ![512, 256] inb_S1024x2816_S512x256_0_512, w8⟩,
        ⟨Rect.unit ![0, 256] ![512, 256] inb_S1024x2816_S512x256_0_256, w9⟩,
        ⟨Rect.unit ![0, 0] ![512, 256] inb_S1024x2816_S512x256_0_0, w10⟩] : List (View.Piece (Elt Ideal) S1024x2816 .bf16)), i ∈ p.1.set := by
  have h1 : (i 1 : ℕ) < 2816 := (i 1).isLt
  simp only [List.mem_cons, List.not_mem_nil, or_false, exists_eq_or_imp, exists_eq_left, Rect.mem_set_unit, Fin.forall_fin_two]
  simp
  omega
end Cert.MixFfnIdeal.Cov
end
-- ==== Proof.MixHid.lean ====
module

public import proofs.«01_k».proof.Proof.Gen.MixFfnIdeal.Value
public import Idealize.ShloMosaic.Lib.Pipeline.Value
public import Idealize.ShloMosaic.Lib.Claim
public import proofs.«01_k».proof.Proof.MixPay2
public import proofs.«01_k».proof.Proof.MixCov
public import Idealize.ShloMosaic.Lib.Pipeline.ValueKit
public import Idealize.ShloMosaic.Lib.Pointwise

@[expose] public section
set_option maxRecDepth 16384
noncomputable section
namespace Cert.MixFfnIdeal.Rows
open Cert.MixFfnIdeal Cert.MixFfnIdeal.Gen Cert.FfnRow
open Idealize.ShloMosaic Idealize.ShloMosaic.TcCoe Idealize.SL.Sem
open Idealize.ShloMosaic.Pipeline (Dat)

/-- The rows the feed-forward half reads, as the kernel makes them from its blocks. -/
def mid (x0 : Vec Ideal S1024x1024 .f32) (x1 : Vec Ideal S4x512x256 .f32) (x2 : Vec Ideal S8x512x128 .f32) (x3 x4 : Vec Ideal S1x512 .f32)
    (x5 : Vec Ideal S1024x1024 .bf16) (x6 : Vec Ideal S1x1024 .f32) : FVec Ideal S1024x1024 .f32 :=
  k0_pay63
    (k0_pay52
      (k0_pay50 (View.ld x1 (Rect.unit ![0, 0, 0] ![1, 512, 256] inb_S4x512x256_S1x512x256_0_0_0)) x3)
      (k0_pay51 (View.ld x1 (Rect.unit ![1, 0, 0] ![1, 512, 256] inb_S4x512x256_S1x512x256_1_0_0)) x3)
      (View.ld x1 (Rect.unit ![2, 0, 0] ![1, 512, 256] inb_S4x512x256_S1x512x256_2_0_0)) x3
      (View.ld x1 (Rect.unit ![3, 0, 0] ![1, 512, 256] inb_S4x512x256_S1x512x256_3_0_0)) x3
      (View.ld x5 (Rect.unit ![0, 0] ![512, 1024] inb_S1024x1024_S512x1024_0_0)))
    (k0_pay53 (View.ld x2 (Rect.unit ![0, 0, 0] ![1, 512, 128] inb_S8x512x128_S1x512x128_0_0_0)) x4)
    (k0_pay54 (View.ld x2 (Rect.unit ![1, 0, 0] ![1, 512, 128] inb_S8x512x128_S1x512x128_1_0_0)) x4)
    (k0_pay57 (k0_pay55 (View.ld x2 (Rect.unit ![2, 0, 0] ![1, 512, 128] inb_S8x512x128_S1x512x128_2_0_0)))
      (k0_pay56 (View.ld x2 (Rect.unit ![2, 0, 0] ![1, 512, 128] inb_S8x512x128_S1x512x128_2_0_0)))
      (FloatOps.ofBits FTy.f32 1140850688#32) x4)
    (k0_pay58 (View.ld x2 (Rect.unit ![3, 0, 0] ![1, 512, 128] inb_S8x512x128_S1x512x128_3_0_0)) x4)
    (k0_pay60 (k0_pay59 (View.ld x2 (Rect.unit ![4, 0, 0] ![1, 512, 128] inb_S8x512x128_S1x512x128_4_0_0))) x4)
    (k0_pay61 (View.ld x2 (Rect.unit ![5, 0, 0] ![1, 512, 128] inb_S8x512x128_S1x512x128_5_0_0)) x4)
    (k0_pay62 (View.ld x2 (Rect.unit ![6, 0, 0] ![1, 512, 128] inb_S8x512x128_S1x512x128_6_0_0)) x4)
    (View.ld x2 (Rect.unit ![7, 0, 0] ![1, 512, 128] inb_S8x512x128_S1x512x128_7_0_0)) x4
    (View.ld x5 (Rect.unit ![512, 0] ![512, 1024] inb_S1024x1024_S512x1024_512_0)) x0 x6

/-- The feed-forward half on row `r` of `X`, with the kernel's own weights. -/
def FF (X : S1024x1024.Idx → EReal) (pg : S1x1024.Idx → EReal) (g u : S1024x2816.Idx → EReal) (d : S2816x1024.Idx → EReal)
    (qg : S1x1024.Idx → EReal) (r j : Fin 1024) : EReal :=
  ffn (fun k => X (ix2 r k)) (fun k => pg (ix2 0 k)) (fun k f => g (ix2 k f)) (fun k f => u (ix2 k f))
    (fun f j => d (ix2 f j)) (fun j => qg (ix2 0 j)) j

theorem wg (h : (Memref.whole cc0_scratch1).IsWhole) (x : Vec Ideal S1024x2816 .bf16) :
    View.read (Elt Ideal) (View.whole cc0_scratch1) (h.unread x) = x := h.read_unread x
theorem wu (h : (Memref.whole cc0_scratch2).IsWhole) (x : Vec Ideal S1024x2816 .bf16) :
    View.read (Elt Ideal) (View.whole cc0_scratch2) (h.unread x) = x := h.read_unread x
theorem wd (h : (Memref.whole cc0_scratch3).IsWhole) (x : Vec Ideal S2816x1024 .bf16) :
    View.read (Elt Ideal) (View.whole cc0_scratch3) (h.unread x) = x := h.read_unread x

variable (X : FVec Ideal S1024x1024 .f32) (x7 : Vec Ideal S1x1024 .f32) (g u : Vec Ideal S1024x2816 .bf16) (d : Vec Ideal S2816x1024 .bf16)
  (x8 : Vec Ideal S1x1024 .f32)

/-- The hidden layer's stores for the first 512 rows, last first. -/
def half0 : List (View.Piece (Elt Ideal) S1024x2816 .bf16) :=
  [⟨Rect.unit ![0, 2560] ![512, 256] inb_S1024x2816_S512x256_0_2560, k0_pay76 (F := Ideal) (k0_pay65 (Pay.lo X) x7)
      (View.ld g (Rect.unit ![0, 2560] ![1024, 256] inb_S1024x2816_S1024x256_0_2560)) (View.ld u (Rect.unit ![0, 2560] ![1024, 256] inb_S1024x2816_S1024x256_0_2560))⟩,
    ⟨Rect.unit ![0, 2304] ![512, 256] inb_S1024x2816_S512x256_0_2304, k0_pay76 (F := Ideal) (k0_pay65 (Pay.lo X) x7)
      (View.ld g (Rect.unit ![0, 2304] ![1024, 256] inb_S1024x2816_S1024x256_0_2304)) (View.ld u (Rect.unit ![0, 2304] ![1024, 256] inb_S1024x2816_S1024x256_0_2304))⟩,
    ⟨Rect.unit ![0, 2048] ![512, 256] inb_S1024x2816_S512x256_0_2048, k0_pay76 (F := Ideal) (k0_pay65 (Pay.lo X) x7)
      (View.ld g (Rect.unit ![0, 2048] ![1024, 256] inb_S1024x2816_S1024x256_0_2048)) (View.ld u (Rect.unit ![0, 2048] ![1024, 256] inb_S1024x2816_S1024x256_0_2048))⟩,
    ⟨Rect.unit ![0, 1792] ![512, 256] inb_S1024x2816_S512x256_0_1792, k0_pay76 (F := Ideal) (k0_pay65 (Pay.lo X) x7)
      (View.ld g (Rect.unit ![0, 1792] ![1024, 256] inb_S1024x2816_S1024x256_0_1792)) (View.ld u (Rect.unit ![0, 1792] ![1024, 256] inb_S1024x2816_S1024x256_0_1792))⟩,
    ⟨Rect.unit ![0, 1536] ![512, 256] inb_S1024x2816_S512x256_0_1536, k0_pay76 (F := Ideal) (k0_pay65 (Pay.lo X) x7)
      (View.ld g (Rect.unit ![0, 1536] ![1024, 256] inb_S1024x2816_S1024x256_0_1536)) (View.ld u (Rect.unit ![0, 1536] ![1024, 256] inb_S1024x2816_S1024x256_0_1536))⟩,
    ⟨Rect.unit ![0, 1280] ![512, 256] inb_S1024x2816_S512x256_0_1280, k0_pay76 (F := Ideal) (k0_pay65 (Pay.lo X) x7)
      (View.ld g (Rect.unit ![0, 1280] ![1024, 256] inb_S1024x2816_S1024x256_0_1280)) (View.ld u (Rect.unit ![0, 1280] ![1024, 256] inb_S1024x2816_S1024x256_0_1280))⟩,
    ⟨Rect.unit ![0, 1024] ![512, 256] inb_S1024x2816_S512x256_0_1024, k0_pay76 (F := Ideal) (k0_pay65 (Pay.lo X) x7)
      (View.ld g (Rect.unit ![0, 1024] ![1024, 256] inb_S1024x2816_S1024x256_0_1024)) (View.ld u (Rect.unit ![0, 1024] ![1024, 256] inb_S1024x2816_S1024x256_0_1024))⟩,
    ⟨Rect.unit ![0, 768] ![512, 256] inb_S1024x2816_S512x256_0_768, k0_pay76 (F := Ideal) (k0_pay65 (Pay.lo X) x7)
      (View.ld g (Rect.unit ![0, 768] ![1024, 256] inb_S1024x2816_S1024x256_0_768)) (View.ld u (Rect.unit ![0, 768] ![1024, 256] inb_S1024x2816_S1024x256_0_768))⟩,
    ⟨Rect.unit ![0, 512] ![512, 256] inb_S1024x2816_S512x256_0_512, k0_pay76 (F := Ideal) (k0_pay65 (Pay.lo X) x7)
      (View.ld g (Rect.unit ![0, 512] ![1024, 256] inb_S1024x2816_S1024x256_0_512)) (View.ld u (Rect.unit ![0, 512] ![1024, 256] inb_S1024x2816_S1024x256_0_512))⟩,
    ⟨Rect.unit ![0, 256] ![512, 256] inb_S1024x2816_S512x256_0_256, k0_pay76 (F := Ideal) (k0_pay65 (Pay.lo X) x7)
      (View.ld g (Rect.unit ![0, 256] ![1024, 256] inb_S1024x2816_S1024x256_0_256)) (View.ld u (Rect.unit ![0, 256] ![1024, 256] inb_S1024x2816_S1024x256_0_256))⟩,
    ⟨Rect.unit ![0, 0] ![512, 256] inb_S1024x2816_S512x256_0_0, k0_pay76 (F := Ideal) (k0_pay65 (Pay.lo X) x7)
      (View.ld g (Rect.unit ![0, 0] ![1024, 256] inb_S1024x2816_S1024x256_0_0)) (View.ld u (Rect.unit ![0, 0] ![1024, 256] inb_S1024x2816_S1024x256_0_0))⟩]

/-- The hidden layer's stores for the other rows. -/
def half1 : List (View.Piece (Elt Ideal) S1024x2816 .bf16) :=
  [⟨Rect.unit ![512, 2560] ![512, 256] inb_S1024x2816_S512x256_512_2560, k0_pay76 (F := Ideal) (k0_pay65 (k0_pay78 X) x7)
      (View.ld g (Rect.unit ![0, 2560] ![1024, 256] inb_S1024x2816_S1024x256_0_2560)) (View.ld u (Rect.unit ![0, 2560] ![1024, 256] inb_S1024x2816_S1024x256_0_2560))⟩,
    ⟨Rect.unit ![512, 2304] ![512, 256] inb_S1024x2816_S512x256_512_2304, k0_pay76 (F := Ideal) (k0_pay65 (k0_pay78 X) x7)
      (View.ld g (Rect.unit ![0, 2304] ![1024, 256] inb_S1024x2816_S1024x256_0_2304)) (View.ld u (Rect.unit ![0, 2304] ![1024, 256] inb_S1024x2816_S1024x256_0_2304))⟩,
    ⟨Rect.unit ![512, 2048] ![512, 256] inb_S1024x2816_S512x256_512_2048, k0_pay76 (F := Ideal) (k0_pay65 (k0_pay78 X) x7)
      (View.ld g (Rect.unit ![0, 2048] ![1024, 256] inb_S1024x2816_S1024x256_0_2048)) (View.ld u (Rect.unit ![0, 2048] ![1024, 256] inb_S1024x2816_S1024x256_0_2048))⟩,
    ⟨Rect.unit ![512, 1792] ![512, 256] inb_S1024x2816_S512x256_512_1792, k0_pay76 (F := Ideal) (k0_pay65 (k0_pay78 X) x7)
      (View.ld g (Rect.unit ![0, 1792] ![1024, 256] inb_S1024x2816_S1024x256_0_1792)) (View.ld u (Rect.unit ![0, 1792] ![1024, 256] inb_S1024x2816_S1024x256_0_1792))⟩,
    ⟨Rect.unit ![512, 1536] ![512, 256] inb_S1024x2816_S512x256_512_1536, k0_pay76 (F := Ideal) (k0_pay65 (k0_pay78 X) x7)
      (View.ld g (Rect.unit ![0, 1536] ![1024, 256] inb_S1024x2816_S1024x256_0_1536)) (View.ld u (Rect.unit ![0, 1536] ![1024, 256] inb_S1024x2816_S1024x256_0_1536))⟩,
    ⟨Rect.unit ![512, 1280] ![512, 256] inb_S1024x2816_S512x256_512_1280, k0_pay76 (F := Ideal) (k0_pay65 (k0_pay78 X) x7)
      (View.ld g (Rect.unit ![0, 1280] ![1024, 256] inb_S1024x2816_S1024x256_0_1280)) (View.ld u (Rect.unit ![0, 1280] ![1024, 256] inb_S1024x2816_S1024x256_0_1280))⟩,
    ⟨Rect.unit ![512, 1024] ![512, 256] inb_S1024x2816_S512x256_512_1024, k0_pay76 (F := Ideal) (k0_pay65 (k0_pay78 X) x7)
      (View.ld g (Rect.unit ![0, 1024] ![1024, 256] inb_S1024x2816_S1024x256_0_1024)) (View.ld u (Rect.unit ![0, 1024] ![1024, 256] inb_S1024x2816_S1024x256_0_1024))⟩,
    ⟨Rect.unit ![512, 768] ![512, 256] inb_S1024x2816_S512x256_512_768, k0_pay76 (F := Ideal) (k0_pay65 (k0_pay78 X) x7)
      (View.ld g (Rect.unit ![0, 768] ![1024, 256] inb_S1024x2816_S1024x256_0_768)) (View.ld u (Rect.unit ![0, 768] ![1024, 256] inb_S1024x2816_S1024x256_0_768))⟩,
    ⟨Rect.unit ![512, 512] ![512, 256] inb_S1024x2816_S512x256_512_512, k0_pay76 (F := Ideal) (k0_pay65 (k0_pay78 X) x7)
      (View.ld g (Rect.unit ![0, 512] ![1024, 256] inb_S1024x2816_S1024x256_0_512)) (View.ld u (Rect.unit ![0, 512] ![1024, 256] inb_S1024x2816_S1024x256_0_512))⟩,
    ⟨Rect.unit ![512, 256] ![512, 256] inb_S1024x2816_S512x256_512_256, k0_pay76 (F := Ideal) (k0_pay65 (k0_pay78 X) x7)
      (View.ld g (Rect.unit ![0, 256] ![1024, 256] inb_S1024x2816_S1024x256_0_256)) (View.ld u (Rect.unit ![0, 256] ![1024, 256] inb_S1024x2816_S1024x256_0_256))⟩,
    ⟨Rect.unit ![512, 0] ![512, 256] inb_S1024x2816_S512x256_512_0, k0_pay76 (F := Ideal) (k0_pay65 (k0_pay78 X) x7)
      (View.ld g (Rect.unit ![0, 0] ![1024, 256] inb_S1024x2816_S1024x256_0_0)) (View.ld u (Rect.unit ![0, 0] ![1024, 256] inb_S1024x2816_S1024x256_0_0))⟩]

/-- What the hidden layer's buffer holds in the first part's rows. -/
theorem hid0 (p : Fin 512) (f : Fin 2816) (i : S1024x2816.Idx) (i0 : (i 0 : ℕ) = p) (i1 : (i 1 : ℕ) = f) :
    View.canon (half0 X x7 g u) i = FfnRow.hidden (rms (Ideal.ofBits .f32 0x44800000#32) (fun k => X (ix2 ⟨p, by omega⟩ k)) fun k => x7 (ix2 0 k))
      (fun k => g (ix2 k f)) fun k => u (ix2 k f) := by
  have hp := p.isLt
  have hf := f.isLt
  unfold half0
  canon_tiles z k using (Cov.cov _ _ _ _ _ _ _ _ _ _ _ _ (by omega))
  all_goals
    have z1 : (z 1 : ℕ) < 256 := (z 1).isLt
    refine (congrArg _ (Pay.eta' z)).trans ((Pay.hid _ _ _ _ _).trans ?_)
    refine congrArg₂ (fun a b : EReal => a * Ideal.logistic a * b) (Finset.sum_congr rfl fun k _ => congrArg₂ (fun a b : EReal => a * b) ?_ ?_) (Finset.sum_congr rfl fun k _ => congrArg₂ (fun a b : EReal => a * b) ?_ ?_)
  all_goals first
    | refine (Pay.norm _ _ _ _).trans (congrArg (fun F => rms _ F _ _) (funext fun j => (Pay.lo_at _ _ _).trans ?_)); blk_ext
    | (beta_reduce; pointwise; blk_ext)

/-- What the hidden layer's buffer holds in the second part's rows, after all stores. -/
theorem hid1 (p : Fin 512) (f : Fin 2816) (i : S1024x2816.Idx) (i0 : (i 0 : ℕ) = 512 + p) (i1 : (i 1 : ℕ) = f) :
    View.canon (half1 X x7 g u ++ half0 X x7 g u) i = FfnRow.hidden (rms (Ideal.ofBits .f32 0x44800000#32) (fun k => X (ix2 ⟨512 + p, by omega⟩ k)) fun k => x7 (ix2 0 k))
      (fun k => g (ix2 k f)) fun k => u (ix2 k f) := by
  have hp := p.isLt
  have hf := f.isLt
  simp only [half0, half1, List.cons_append, List.nil_append]
  canon_tiles z k
  all_goals try omega
  all_goals
    have z1 : (z 1 : ℕ) < 256 := (z 1).isLt
    refine (congrArg _ (Pay.eta' z)).trans ((Pay.hid _ _ _ _ _).trans ?_)
    refine congrArg₂ (fun a b : EReal => a * Ideal.logistic a * b) (Finset.sum_congr rfl fun k _ => congrArg₂ (fun a b : EReal => a * b) ?_ ?_) (Finset.sum_congr rfl fun k _ => congrArg₂ (fun a b : EReal => a * b) ?_ ?_)
  all_goals first
    | refine (Pay.norm _ _ _ _).trans (congrArg (fun F => rms _ F _ _) (funext fun j => (Pay.hi_at _ _ _).trans ?_)); blk_ext
    | (beta_reduce; pointwise; blk_ext)

/-- A point's two stores: the feed-forward half of every row. -/
theorem core (y : S1024x1024.Idx) :
    View.canon (Val := Elt Ideal) (e := .f32) [⟨Rect.unit ![512, 0] ![512, 1024] inb_S1024x1024_S512x1024_512_0,
        k0_pay77 (F := Ideal) (k0_pay78 X) (View.ld (View.canon (half1 X x7 g u ++ half0 X x7 g u)) (Rect.unit ![512, 0] ![512, 2816] inb_S1024x2816_S512x2816_512_0)) d x8⟩,
      ⟨Rect.unit ![0, 0] ![512, 1024] inb_S1024x1024_S512x1024_0_0,
        k0_pay77 (F := Ideal) (Pay.lo X) (View.ld (View.canon (half0 X x7 g u)) (Rect.unit ![0, 0] ![512, 2816] inb_S1024x2816_S512x2816_0_0)) d x8⟩] y
      = FF X x7 g u d x8 ⟨y 0, by have := (y 0).isLt; simpa using this⟩ ⟨y 1, by have := (y 1).isLt; simpa using this⟩ := by
  have y0lt : (y 0 : ℕ) < 1024 := (y 0).isLt
  have y1lt : (y 1 : ℕ) < 1024 := (y 1).isLt
  unfold FF ffn
  canon_tiles x h
  · refine (congrArg _ (Pay.eta x)).trans ((Pay.out0 _ _ _ _ _ _).trans ?_)
    refine congrArg₂ (fun a b : EReal => a + b) ((Pay.hi_at _ _ _).trans (by blk_ext)) (congrArg (fun a : EReal => _ * a) ?_)
    refine (congrArg (rms _ _ _) (Fin.ext h1.symm)).trans ?_
    refine congrArg (fun F => rms _ F _ _) (funext fun j => Finset.sum_congr rfl fun f _ => congrArg₂ (fun a b : EReal => a * b) ?_ rfl)
    refine (hid1 X x7 g u ⟨x 0, x0_lt⟩ f _ ?_ ?_).trans ?_
    · change 512 + 1 * (x 0 : ℕ) = 512 + (x 0 : ℕ); omega
    · change 0 + 1 * (f : ℕ) = _; omega
    · refine congrArg (fun F => FfnRow.hidden (rms _ F _) _ _) (funext fun k => ?_)
      blk_ext
  · refine (congrArg _ (Pay.eta x)).trans ((Pay.out0 _ _ _ _ _ _).trans ?_)
    refine congrArg₂ (fun a b : EReal => a + b) ((Pay.lo_at _ _ _).trans (by blk_ext)) (congrArg (fun a : EReal => _ * a) ?_)
    refine (congrArg (rms _ _ _) (Fin.ext h1.symm)).trans ?_
    refine congrArg (fun F => rms _ F _ _) (funext fun j => Finset.sum_congr rfl fun f _ => congrArg₂ (fun a b : EReal => a * b) ?_ rfl)
    refine (hid0 X x7 g u ⟨x 0, x0_lt⟩ f _ ?_ ?_).trans ?_
    · change 0 + 1 * (x 0 : ℕ) = (x 0 : ℕ); omega
    · change 0 + 1 * (f : ℕ) = _; omega
    · refine congrArg (fun F => FfnRow.hidden (rms _ F _) _ _) (funext fun k => ?_)
      blk_ext

end Cert.MixFfnIdeal.Rows
end
-- ==== Proof.MixOutA.lean ====
module

public import proofs.«01_k».proof.Proof.Gen.MixFfnIdeal.Value
public import Idealize.ShloMosaic.Lib.Pipeline.Value
public import Idealize.ShloMosaic.Lib.Claim
public import proofs.«01_k».proof.Proof.MixHid
public import Idealize.ShloMosaic.Lib.Pipeline.ValueKit
public import Idealize.ShloMosaic.Lib.Pointwise

@[expose] public section
set_option maxRecDepth 16384
noncomputable section
namespace Cert.MixFfnIdeal.Rows
open Cert.MixFfnIdeal Cert.MixFfnIdeal.Gen Cert.FfnRow
open Idealize.ShloMosaic Idealize.ShloMosaic.TcCoe Idealize.SL.Sem
open Idealize.ShloMosaic.Pipeline (Dat)

theorem whole (d : Vec Ideal S2816x1024 .bf16) :
    (fun j => d ((Rect.unit (s := S2816x1024) ![0, 0] ![2816, 1024] inb_S2816x1024_S2816x1024_0_0).idx j)) = d :=
  funext fun j => congrArg d (funext fun k => Fin.ext (by
    match k with
    | 0 => change 0 + 1 * (j 0 : ℕ) = (j 0 : ℕ); omega
    | 1 => change 0 + 1 * (j 1 : ℕ) = (j 1 : ℕ); omega))

set_option maxHeartbeats 40000000 in
/-- The first point: with the weights it has itself put there. -/
theorem outA (c : Dev nD) (t : Fin cfg0.N) (hc : cond0_0 (grid0.coords t)) (x0 : Vec Ideal S1024x1024 .f32) (x1 : Vec Ideal S4x512x256 .f32) (x2 : Vec Ideal S8x512x128 .f32) (x3 x4 : Vec Ideal S1x512 .f32) (x5 : Vec Ideal S1024x1024 .bf16) (x6 x7 x8 : Vec Ideal S1x1024 .f32) (g u : Vec Ideal S1024x2816 .bf16) (d : Vec Ideal S2816x1024 .bf16) (fh0 : HbBuf0 (F := Ideal) c hbM0_0) (fh1 : HbBuf0 (F := Ideal) c hbM0_1) (fh2 : HbBuf0 (F := Ideal) c hbM0_2)
    (X : FVec Ideal S1024x1024 .f32) (hX : mid x0 x1 x2 x3 x4 x5 x6 = X)
    (hg : sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 fh0 fh1 fh2 = g)
    (hu : sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 fh0 fh1 fh2 = u)
    (hd : sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 fh0 fh1 fh2 = d) (y : S1024x1024.Idx) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 fh0 fh1 fh2 y
      = FF X x7 g u d x8 ⟨y 0, by have := (y 0).isLt; simpa using this⟩ ⟨y 1, by have := (y 1).isLt; simpa using this⟩ := by
  unfold mid at hX
  frame_out at hg
  frame_out at hu
  frame_out at hd
  frame_out
  have hg' : ∀ B, View.readCov (View.whole cc0_scratch1) _ B = fun j => g (B.idx j) := fun B =>
    (View.readCov_eq_canon' _ _ B).trans (congrArg (fun C : S1024x2816.Idx → Elt Ideal .bf16 => fun j => C (B.idx j)) hg)
  have hu' : ∀ B, View.readCov (View.whole cc0_scratch2) _ B = fun j => u (B.idx j) := fun B =>
    (View.readCov_eq_canon' _ _ B).trans (congrArg (fun C : S1024x2816.Idx → Elt Ideal .bf16 => fun j => C (B.idx j)) hu)
  have hd' : ∀ B, View.readCov (View.whole cc0_scratch3) _ B = fun j => d (B.idx j) := fun B =>
    (View.readCov_eq_canon' _ _ B).trans (congrArg (fun C : S2816x1024.Idx → Elt Ideal .bf16 => fun j => C (B.idx j)) hd)
  have hd' := (hd' (Rect.unit (s := S2816x1024) ![0, 0] ![2816, 1024] inb_S2816x1024_S2816x1024_0_0).toLoadRect).trans (whole d)
  clear hg hu hd
  simp only [↓hg', ↓hu', ↓hd']
  clear hg' hu' hd'
  simp only [Pay.e64, Pay.e66, Pay.e67, Pay.e68, Pay.e69, Pay.e70, Pay.e71, Pay.e72, Pay.e73, Pay.e74, Pay.e75, Pay.e81, Pay.e82, Pay.e83,
    Pay.e85, Pay.e86, Pay.e87, Pay.e89, Pay.e90, Pay.e91, Pay.e93, Pay.e94, Pay.e1, hX]
  clear hX
  simp only [Pay.e79, View.readCov_eq_canon']
  exact core X x7 g u d x8 y
end Cert.MixFfnIdeal.Rows
end
-- ==== Proof.MixOutB.lean ====
module

public import proofs.«01_k».proof.Proof.Gen.MixFfnIdeal.Value
public import Idealize.ShloMosaic.Lib.Pipeline.Value
public import Idealize.ShloMosaic.Lib.Claim
public import proofs.«01_k».proof.Proof.MixHid
public import Idealize.ShloMosaic.Lib.Pipeline.ValueKit
public import Idealize.ShloMosaic.Lib.Pointwise

@[expose] public section
set_option maxRecDepth 16384
noncomputable section
namespace Cert.MixFfnIdeal.Rows
open Cert.MixFfnIdeal Cert.MixFfnIdeal.Gen Cert.FfnRow
open Idealize.ShloMosaic Idealize.ShloMosaic.TcCoe Idealize.SL.Sem
open Idealize.ShloMosaic.Pipeline (Dat)

set_option maxHeartbeats 40000000 in
/-- A later point: with the weights `g`, `u`, `d` it finds in its buffers. -/
theorem outB (c : Dev nD) (t : Fin cfg0.N) (hc : ¬cond0_0 (grid0.coords t)) (x0 : Vec Ideal S1024x1024 .f32) (x1 : Vec Ideal S4x512x256 .f32) (x2 : Vec Ideal S8x512x128 .f32) (x3 x4 : Vec Ideal S1x512 .f32) (x5 : Vec Ideal S1024x1024 .bf16) (x6 x7 x8 : Vec Ideal S1x1024 .f32) (g u : Vec Ideal S1024x2816 .bf16) (d : Vec Ideal S2816x1024 .bf16) (fh0 : HbBuf0 (F := Ideal) c hbM0_0) (fh1 : HbBuf0 (F := Ideal) c hbM0_1) (fh2 : HbBuf0 (F := Ideal) c hbM0_2)
    (X : FVec Ideal S1024x1024 .f32) (hX : mid x0 x1 x2 x3 x4 x5 x6 = X) (y : S1024x1024.Idx) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 g u d fh0 fh1 fh2 y
      = FF X x7 g u d x8 ⟨y 0, by have := (y 0).isLt; simpa using this⟩ ⟨y 1, by have := (y 1).isLt; simpa using this⟩ := by
  unfold mid at hX
  frame_out
  simp only [Pay.e64, Pay.e66, Pay.e67, Pay.e68, Pay.e69, Pay.e70, Pay.e71, Pay.e72, Pay.e73, Pay.e74, Pay.e75, Pay.e81, Pay.e82, Pay.e83,
    Pay.e85, Pay.e86, Pay.e87, Pay.e89, Pay.e90, Pay.e91, Pay.e93, Pay.e94, Pay.e1, hX]
  clear hX
  simp only [Pay.e79, wg, wu, wd, View.readCov_eq_canon']
  have e := core X x7 g u d x8 y
  simp only [half0, half1, List.cons_append, List.nil_append] at e
  exact e

end Cert.MixFfnIdeal.Rows
end
-- ==== Proof.MixW.lean ====
module

public import proofs.«01_k».proof.Proof.Gen.MixFfnIdeal.Value
public import Idealize.ShloMosaic.Lib.Pipeline.Value
public import Idealize.ShloMosaic.Lib.Claim
public import proofs.«01_k».proof.Proof.MixHid
public import Idealize.ShloMosaic.Lib.Pipeline.ValueKit
public import Idealize.ShloMosaic.Lib.Pointwise

@[expose] public section
set_option maxRecDepth 16384
noncomputable section
namespace Cert.MixFfnIdeal.Rows
open Cert.MixFfnIdeal Cert.MixFfnIdeal.Gen Cert.FfnRow
open Idealize.ShloMosaic Idealize.ShloMosaic.TcCoe Idealize.SL.Sem
open Idealize.ShloMosaic.Pipeline (Dat)

variable {sig' : RefSig} {κ' : Kind} {sp' : Space}

/-- Reading a staging slot back: its last store, past the stores into other slots. -/
theorem hit {S : Shape} {off : Fin S.rank → ℕ} {size : Fin S.rank → ℕ} (v : View sig' κ' sp' S .f32) (inb inb' : ∀ a, off a + size a ≤ S.size a)
    (w : (Rect.unit (s := S) off size inb).shape.Idx → Elt Ideal .f32) (L : List (View.Piece (Elt Ideal) S .f32)) :
    View.readCov v (⟨Rect.unit off size inb, w⟩ :: L) (Rect.unit off size inb').toLoadRect = w := by
  rw [View.readCov_eq_canon']
  exact funext fun j => View.canon_cons_emb (Rect.unit off size inb) w L j

theorem missG {a b : ℕ} (v : View sig' κ' sp' S4x64x2816 .f32) (inb : ∀ k, ![a, 0, 0] k + ![1, 64, 2816] k ≤ S4x64x2816.size k)
    (inb' : ∀ k, ![b, 0, 0] k + ![1, 64, 2816] k ≤ S4x64x2816.size k)
    (w : (Rect.unit (s := S4x64x2816) ![a, 0, 0] ![1, 64, 2816] inb).shape.Idx → Elt Ideal .f32) (L : List (View.Piece (Elt Ideal) S4x64x2816 .f32)) (h : a ≠ b) :
    View.readCov v (⟨Rect.unit ![a, 0, 0] ![1, 64, 2816] inb, w⟩ :: L) (Rect.unit ![b, 0, 0] ![1, 64, 2816] inb').toLoadRect
      = View.readCov v L (Rect.unit ![b, 0, 0] ![1, 64, 2816] inb').toLoadRect := by
  simp only [View.readCov_eq_canon']
  refine funext fun j => View.canon_cons_of_not_mem _ _ (Rect.not_mem_set_of_axis _ _ 0 a 1 rfl rfl rfl ?_)
  have hj : (j 0 : ℕ) < 1 := (j 0).isLt
  change b + 1 * (j 0 : ℕ) < a ∨ a + 1 ≤ b + 1 * (j 0 : ℕ)
  omega

theorem missD {a b : ℕ} (v : View sig' κ' sp' S4x176x1024 .f32) (inb : ∀ k, ![a, 0, 0] k + ![1, 176, 1024] k ≤ S4x176x1024.size k)
    (inb' : ∀ k, ![b, 0, 0] k + ![1, 176, 1024] k ≤ S4x176x1024.size k)
    (w : (Rect.unit (s := S4x176x1024) ![a, 0, 0] ![1, 176, 1024] inb).shape.Idx → Elt Ideal .f32) (L : List (View.Piece (Elt Ideal) S4x176x1024 .f32)) (h : a ≠ b) :
    View.readCov v (⟨Rect.unit ![a, 0, 0] ![1, 176, 1024] inb, w⟩ :: L) (Rect.unit ![b, 0, 0] ![1, 176, 1024] inb').toLoadRect
      = View.readCov v L (Rect.unit ![b, 0, 0] ![1, 176, 1024] inb').toLoadRect := by
  simp only [View.readCov_eq_canon']
  refine funext fun j => View.canon_cons_of_not_mem _ _ (Rect.not_mem_set_of_axis _ _ 0 a 1 rfl rfl rfl ?_)
  have hj : (j 0 : ℕ) < 1 := (j 0).isLt
  change b + 1 * (j 0 : ℕ) < a ∨ a + 1 ≤ b + 1 * (j 0 : ℕ)
  omega

/-- A staged chunk's entry, as the copy read it out of its operand. -/
theorem slotG (c : Dev nD) (fh : HbBuf0 (F := Ideal) c hbM0_0) (o : ℕ) (inb : ∀ k, ![o, 0, 0] k + ![1, 64, 2816] k ≤ S16x64x2816.size k)
    (ho : o < 16) (p : Fin 64) (q : Fin 2816) :
    ReadAs.same.apply (View.read (Elt Ideal) ((View.whole main_v10).slice (Rect.unit (s := S16x64x2816) ![o, 0, 0] ![1, 64, 2816] inb)) fh) (ix3 0 p q)
      = (show S16x64x2816.Idx → EReal from fh) (ix3 ⟨o, ho⟩ p q) := by
  change (show S16x64x2816.Idx → EReal from fh) ((Rect.unit (s := S16x64x2816) ![o, 0, 0] ![1, 64, 2816] inb).emb (ix3 0 p q)) = _
  refine congrArg _ (funext fun k => Fin.ext ?_)
  match k with
  | 0 => change o + 1 * 0 = o; omega
  | 1 => change 0 + 1 * (p : ℕ) = p; omega
  | 2 => change 0 + 1 * (q : ℕ) = q; omega

theorem slotU (c : Dev nD) (fh : HbBuf0 (F := Ideal) c hbM0_1) (o : ℕ) (inb : ∀ k, ![o, 0, 0] k + ![1, 64, 2816] k ≤ S16x64x2816.size k)
    (ho : o < 16) (p : Fin 64) (q : Fin 2816) :
    ReadAs.same.apply (View.read (Elt Ideal) ((View.whole main_v11).slice (Rect.unit (s := S16x64x2816) ![o, 0, 0] ![1, 64, 2816] inb)) fh) (ix3 0 p q)
      = (show S16x64x2816.Idx → EReal from fh) (ix3 ⟨o, ho⟩ p q) := by
  change (show S16x64x2816.Idx → EReal from fh) ((Rect.unit (s := S16x64x2816) ![o, 0, 0] ![1, 64, 2816] inb).emb (ix3 0 p q)) = _
  refine congrArg _ (funext fun k => Fin.ext ?_)
  match k with
  | 0 => change o + 1 * 0 = o; omega
  | 1 => change 0 + 1 * (p : ℕ) = p; omega
  | 2 => change 0 + 1 * (q : ℕ) = q; omega

theorem slotD (c : Dev nD) (fh : HbBuf0 (F := Ideal) c hbM0_2) (o : ℕ) (inb : ∀ k, ![o, 0, 0] k + ![1, 176, 1024] k ≤ S16x176x1024.size k)
    (ho : o < 16) (p : Fin 176) (q : Fin 1024) :
    ReadAs.same.apply (View.read (Elt Ideal) ((View.whole main_v12).slice (Rect.unit (s := S16x176x1024) ![o, 0, 0] ![1, 176, 1024] inb)) fh) (ix3 0 p q)
      = (show S16x176x1024.Idx → EReal from fh) (ix3 ⟨o, ho⟩ p q) := by
  change (show S16x176x1024.Idx → EReal from fh) ((Rect.unit (s := S16x176x1024) ![o, 0, 0] ![1, 176, 1024] inb).emb (ix3 0 p q)) = _
  refine congrArg _ (funext fun k => Fin.ext ?_)
  match k with
  | 0 => change o + 1 * 0 = o; omega
  | 1 => change 0 + 1 * (p : ℕ) = p; omega
  | 2 => change 0 + 1 * (q : ℕ) = q; omega

set_option maxHeartbeats 40000000 in
/-- The gate's weights as the first point leaves them in its buffer: the sixteen chunks under one another. -/
theorem gate (c : Dev nD) (t : Fin cfg0.N) (hc : cond0_0 (grid0.coords t)) (x0 : Vec Ideal S1024x1024 .f32) (x1 : Vec Ideal S4x512x256 .f32) (x2 : Vec Ideal S8x512x128 .f32) (x3 x4 : Vec Ideal S1x512 .f32) (x5 : Vec Ideal S1024x1024 .bf16) (x6 x7 x8 : Vec Ideal S1x1024 .f32) (fh0 : HbBuf0 (F := Ideal) c hbM0_0) (fh1 : HbBuf0 (F := Ideal) c hbM0_1) (fh2 : HbBuf0 (F := Ideal) c hbM0_2) (y : S1024x2816.Idx) :
    sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 fh0 fh1 fh2 y = (show S16x64x2816.Idx → EReal from fh0) (ix3 ⟨(y 0 : ℕ) / 64, by have : (y 0 : ℕ) < 1024 := (y 0).isLt; omega⟩ ⟨(y 0 : ℕ) % 64, by omega⟩ ⟨y 1, by have := (y 1).isLt; simpa using this⟩) := by
  frame_out
  have y0lt : (y 0 : ℕ) < 1024 := (y 0).isLt
  canon_tiles x h
  all_goals
    simp (disch := decide) only [missG, hit]
    open_payloads
    pointwise
    refine (slotG _ _ _ _ (by decide) ⟨x 0, x0_lt⟩ ⟨x 1, x1_lt⟩).trans ?_
    blk_ext

set_option maxHeartbeats 40000000 in
/-- The other input weights as the first point leaves them in its buffer: the sixteen chunks under one another. -/
theorem up (c : Dev nD) (t : Fin cfg0.N) (hc : cond0_0 (grid0.coords t)) (x0 : Vec Ideal S1024x1024 .f32) (x1 : Vec Ideal S4x512x256 .f32) (x2 : Vec Ideal S8x512x128 .f32) (x3 x4 : Vec Ideal S1x512 .f32) (x5 : Vec Ideal S1024x1024 .bf16) (x6 x7 x8 : Vec Ideal S1x1024 .f32) (fh0 : HbBuf0 (F := Ideal) c hbM0_0) (fh1 : HbBuf0 (F := Ideal) c hbM0_1) (fh2 : HbBuf0 (F := Ideal) c hbM0_2) (y : S1024x2816.Idx) :
    sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 fh0 fh1 fh2 y = (show S16x64x2816.Idx → EReal from fh1) (ix3 ⟨(y 0 : ℕ) / 64, by have : (y 0 : ℕ) < 1024 := (y 0).isLt; omega⟩ ⟨(y 0 : ℕ) % 64, by omega⟩ ⟨y 1, by have := (y 1).isLt; simpa using this⟩) := by
  frame_out
  have y0lt : (y 0 : ℕ) < 1024 := (y 0).isLt
  canon_tiles x h
  all_goals
    simp (disch := decide) only [missG, hit]
    open_payloads
    pointwise
    refine (slotU _ _ _ _ (by decide) ⟨x 0, x0_lt⟩ ⟨x 1, x1_lt⟩).trans ?_
    blk_ext

set_option maxHeartbeats 40000000 in
/-- The output weights as the first point leaves them in its buffer: the sixteen chunks under one another. -/
theorem down (c : Dev nD) (t : Fin cfg0.N) (hc : cond0_0 (grid0.coords t)) (x0 : Vec Ideal S1024x1024 .f32) (x1 : Vec Ideal S4x512x256 .f32) (x2 : Vec Ideal S8x512x128 .f32) (x3 x4 : Vec Ideal S1x512 .f32) (x5 : Vec Ideal S1024x1024 .bf16) (x6 x7 x8 : Vec Ideal S1x1024 .f32) (fh0 : HbBuf0 (F := Ideal) c hbM0_0) (fh1 : HbBuf0 (F := Ideal) c hbM0_1) (fh2 : HbBuf0 (F := Ideal) c hbM0_2) (y : S2816x1024.Idx) :
    sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 fh0 fh1 fh2 y = (show S16x176x1024.Idx → EReal from fh2) (ix3 ⟨(y 0 : ℕ) / 176, by have : (y 0 : ℕ) < 2816 := (y 0).isLt; omega⟩ ⟨(y 0 : ℕ) % 176, by omega⟩ ⟨y 1, by have := (y 1).isLt; simpa using this⟩) := by
  frame_out
  have y0lt : (y 0 : ℕ) < 2816 := (y 0).isLt
  canon_tiles x h
  all_goals
    simp (disch := decide) only [missD, hit]
    open_payloads
    pointwise
    refine (slotD _ _ _ _ (by decide) ⟨x 0, x0_lt⟩ ⟨x 1, x1_lt⟩).trans ?_
    blk_ext

end Cert.MixFfnIdeal.Rows
end
-- ==== Proof.MixHost.lean ====
module

public import proofs.«01_k».proof.Proof.Gen.MixFfnIdeal.Value
public import Idealize.ShloMosaic.Lib.Pipeline.Value
public import Idealize.ShloMosaic.Lib.Pipeline.ValueKit
public import Idealize.ShloMosaic.Lib.Pointwise
public import Idealize.ShloMosaic.Lib.Claim

@[expose] public section
set_option maxRecDepth 16384
noncomputable section
namespace Cert.MixFfnIdeal.HostIn
open Cert.MixFfnIdeal Cert.MixFfnIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

set_option maxHeartbeats 1000000

/-- The first head group's operand: blocked by 256 tokens, transposed. -/
theorem a_at (t : Fin 64) (k : Fin 512) (i : Fin 256) : (V m c main_v1 (ix3 t k i) : EReal) = m ((c : Thread nD τ).loc main_arg1) (ix3 ⟨t / 32, by omega⟩ ⟨t % 32 * 256 + i, by omega⟩ k) := by
  simp only [V, hostOps0, List.flatten_cons, List.flatten_nil, List.append_nil, List.cons_append, List.nil_append]
  entry_read
  pointwise

/-- The second head group's operand: blocked by 128 tokens, transposed. -/
theorem b_at (t : Fin 128) (k : Fin 512) (i : Fin 128) : (V m c main_v3 (ix3 t k i) : EReal) = m ((c : Thread nD τ).loc main_arg2) (ix3 ⟨t / 64, by omega⟩ ⟨t % 64 * 128 + i, by omega⟩ k) := by
  simp only [V, hostOps0, List.flatten_cons, List.flatten_nil, List.append_nil, List.cons_append, List.nil_append]
  entry_read
  pointwise

/-- The layer's rows, one after another. -/
theorem x_at (r : Fin 16384) (j : Fin 1024) : (V m c main_v4 (ix2 r j) : EReal) = m ((c : Thread nD τ).loc main_arg0) (ix3 ⟨r / 8192, by omega⟩ ⟨r % 8192, by omega⟩ j) := by
  simp only [V, hostOps0, List.flatten_cons, List.flatten_nil, List.append_nil, List.cons_append, List.nil_append]
  entry_read
  pointwise

/-- The gains, as a row. -/
theorem ga_at (k : Fin 512) : (V m c main_v5 (ix2 0 k) : EReal) = m ((c : Thread nD τ).loc main_arg3) (ix1 k) := by
  simp only [V, hostOps0, List.flatten_cons, List.flatten_nil, List.append_nil, List.cons_append, List.nil_append]
  entry_read
  pointwise

/-- The gains, as a row. -/
theorem gb_at (k : Fin 512) : (V m c main_v6 (ix2 0 k) : EReal) = m ((c : Thread nD τ).loc main_arg4) (ix1 k) := by
  simp only [V, hostOps0, List.flatten_cons, List.flatten_nil, List.append_nil, List.cons_append, List.nil_append]
  entry_read
  pointwise

/-- The gains, as a row. -/
theorem mg_at (k : Fin 1024) : (V m c main_v8 (ix2 0 k) : EReal) = m ((c : Thread nD τ).loc main_arg6) (ix1 k) := by
  simp only [V, hostOps0, List.flatten_cons, List.flatten_nil, List.append_nil, List.cons_append, List.nil_append]
  entry_read
  pointwise

/-- The gains, as a row. -/
theorem pg_at (k : Fin 1024) : (V m c main_v9 (ix2 0 k) : EReal) = m ((c : Thread nD τ).loc main_arg7) (ix1 k) := by
  simp only [V, hostOps0, List.flatten_cons, List.flatten_nil, List.append_nil, List.cons_append, List.nil_append]
  entry_read
  pointwise

/-- The gains, as a row. -/
theorem qg_at (k : Fin 1024) : (V m c main_v13 (ix2 0 k) : EReal) = m ((c : Thread nD τ).loc main_arg11) (ix1 k) := by
  simp only [V, hostOps0, List.flatten_cons, List.flatten_nil, List.append_nil, List.cons_append, List.nil_append]
  entry_read
  pointwise

/-- The projection's weights. -/
theorem w_at (k j : Fin 1024) : (V m c main_v7 (ix2 k j) : EReal) = m ((c : Thread nD τ).loc main_arg5) (ix2 k j) := by
  simp only [V, hostOps0, List.flatten_cons, List.flatten_nil, List.append_nil, List.cons_append, List.nil_append]
  entry_read
  pointwise

/-- The gate's weights, in 16 chunks of rows. -/
theorem wg_at (s : Fin 16) (k : Fin 64) (f : Fin 2816) : (V m c main_v10 (ix3 s k f) : EReal) = m ((c : Thread nD τ).loc main_arg8) (ix2 ⟨s * 64 + k, by omega⟩ f) := by
  simp only [V, hostOps0, List.flatten_cons, List.flatten_nil, List.append_nil, List.cons_append, List.nil_append]
  entry_read
  pointwise

/-- The other input weights, in 16 chunks of rows. -/
theorem wu_at (s : Fin 16) (k : Fin 64) (f : Fin 2816) : (V m c main_v11 (ix3 s k f) : EReal) = m ((c : Thread nD τ).loc main_arg9) (ix2 ⟨s * 64 + k, by omega⟩ f) := by
  simp only [V, hostOps0, List.flatten_cons, List.flatten_nil, List.append_nil, List.cons_append, List.nil_append]
  entry_read
  pointwise

/-- The output weights, in 16 chunks of rows. -/
theorem wd_at (s : Fin 16) (k : Fin 176) (f : Fin 1024) : (V m c main_v12 (ix3 s k f) : EReal) = m ((c : Thread nD τ).loc main_arg10) (ix2 ⟨s * 176 + k, by omega⟩ f) := by
  simp only [V, hostOps0, List.flatten_cons, List.flatten_nil, List.append_nil, List.cons_append, List.nil_append]
  entry_read
  pointwise

end Cert.MixFfnIdeal.HostIn
end
-- ==== Proof.MixCarry.lean ====
module

public import proofs.«01_k».proof.Proof.MixW
public import proofs.«01_k».proof.Proof.MixHost

@[expose] public section
set_option maxRecDepth 16384
noncomputable section
namespace Cert.MixFfnIdeal.Block
open Cert.MixFfnIdeal Cert.MixFfnIdeal.Gen Cert.FfnRow Cert.MixFfnIdeal.Rows
open Idealize.ShloMosaic Idealize.ShloMosaic.TcCoe Idealize.SL.Sem

variable (m : (ℓ : Loc nD τ sig) → Buf (Elt Ideal) ℓ) (c : Dev nD)

/-- The gate's weights, the other input weights and the output weights, as the buffers hold them. -/
def G : Vec Ideal S1024x2816 .bf16 := fun y => (m ((c : Thread nD τ).loc main_arg8) y : EReal)
def U : Vec Ideal S1024x2816 .bf16 := fun y => (m ((c : Thread nD τ).loc main_arg9) y : EReal)
def D : Vec Ideal S2816x1024 .bf16 := fun y => (m ((c : Thread nD τ).loc main_arg10) y : EReal)

theorem gateG (t : Fin cfg0.N) (hc) (x0 : Vec Ideal S1024x1024 .f32) (x1 : Vec Ideal S4x512x256 .f32) (x2 : Vec Ideal S8x512x128 .f32) (x3 x4 : Vec Ideal S1x512 .f32) (x5 : Vec Ideal S1024x1024 .bf16) (x6 x7 x8 : Vec Ideal S1x1024 .f32) :
    sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 (V m c main_v10) (V m c main_v11) (V m c main_v12) = G m c := by
  funext y
  refine (gate c t hc x0 x1 x2 x3 x4 x5 x6 x7 x8 _ _ _ y).trans ?_
  refine (HostIn.wg_at m c _ _ _).trans ?_
  have y0 : (y 0 : ℕ) < 1024 := (y 0).isLt
  refine congrArg (m ((c : Thread nD τ).loc main_arg8)) (funext fun k => Fin.ext ?_)
  match k with
  | 0 => change (y 0 : ℕ) / 64 * 64 + (y 0 : ℕ) % 64 = y 0; omega
  | 1 => rfl

theorem upU (t : Fin cfg0.N) (hc) (x0 : Vec Ideal S1024x1024 .f32) (x1 : Vec Ideal S4x512x256 .f32) (x2 : Vec Ideal S8x512x128 .f32) (x3 x4 : Vec Ideal S1x512 .f32) (x5 : Vec Ideal S1024x1024 .bf16) (x6 x7 x8 : Vec Ideal S1x1024 .f32) :
    sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 (V m c main_v10) (V m c main_v11) (V m c main_v12) = U m c := by
  funext y
  refine (up c t hc x0 x1 x2 x3 x4 x5 x6 x7 x8 _ _ _ y).trans ?_
  refine (HostIn.wu_at m c _ _ _).trans ?_
  have y0 : (y 0 : ℕ) < 1024 := (y 0).isLt
  refine congrArg (m ((c : Thread nD τ).loc main_arg9)) (funext fun k => Fin.ext ?_)
  match k with
  | 0 => change (y 0 : ℕ) / 64 * 64 + (y 0 : ℕ) % 64 = y 0; omega
  | 1 => rfl

theorem downD (t : Fin cfg0.N) (hc) (x0 : Vec Ideal S1024x1024 .f32) (x1 : Vec Ideal S4x512x256 .f32) (x2 : Vec Ideal S8x512x128 .f32) (x3 x4 : Vec Ideal S1x512 .f32) (x5 : Vec Ideal S1024x1024 .bf16) (x6 x7 x8 : Vec Ideal S1x1024 .f32) :
    sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc x0 x1 x2 x3 x4 x5 x6 x7 x8 (V m c main_v10) (V m c main_v11) (V m c main_v12) = D m c := by
  funext y
  refine (down c t hc x0 x1 x2 x3 x4 x5 x6 x7 x8 _ _ _ y).trans ?_
  refine (HostIn.wd_at m c _ _ _).trans ?_
  have y0 : (y 0 : ℕ) < 2816 := (y 0).isLt
  refine congrArg (m ((c : Thread nD τ).loc main_arg10)) (funext fun k => Fin.ext ?_)
  match k with
  | 0 => change (y 0 : ℕ) / 176 * 176 + (y 0 : ℕ) % 176 = y 0; omega
  | 1 => rfl

/-- Every point leaves the weights in their buffers. -/
theorem carried (n : ℕ) (hn : n < cfg0.N) : (outsAt0 m c n hn).2 = (G m c, U m c, D m c) := by
  induction n with
  | zero =>
    have e := outsAt0_A m c ⟨0, hn⟩ rfl
    rw [gateG, upU, downD] at e
    exact congrArg Prod.snd e
  | succ n ih =>
    have hN : cfg0.N = 16 := N_0
    have e := outsAt0_B m c ⟨n + 1, hn⟩ (by simp only; omega)
    unfold sout0_B_1 sout0_B_2 sout0_B_3 at e
    have ih' : (outsAt0 m c ((⟨n + 1, hn⟩ : Fin cfg0.N).val - 1) (Nat.lt_of_le_of_lt (Nat.sub_le _ _) hn)).2 = (G m c, U m c, D m c) := ih (by omega)
    rw [ih'] at e
    exact congrArg Prod.snd e

end Cert.MixFfnIdeal.Block
end
-- ==== Proof.MixPay.lean ====
module

public import proofs.«01_k».proof.Proof.Gen.MixFfnIdeal.Skeleton
public import proofs.«01_k».proof.Proof.FfnRow
public import Idealize.ShloMosaic.Lib.Pipeline.ValueKit

@[expose] public section
set_option maxRecDepth 16384
noncomputable section
namespace Cert.MixFfnIdeal.Pay
open Cert.MixFfnIdeal Cert.MixFfnIdeal.Gen Cert.FfnRow
open Idealize.ShloMosaic Idealize.ShloMosaic.TcCoe Idealize.SL.Sem

/-- The first head group's projection: its tiles' columns (of 256 tokens each) normalized, times the first half of the weights. -/
theorem first (v3 v21 v39 v57 : Vec Ideal S1x512x256 .f32) (g0 g1 g2 g3 : Vec Ideal S1x512 .f32)
    (w : Vec Ideal S512x1024 .bf16) (A : Fin 1024 → Fin 512 → EReal) (g : Fin 512 → EReal)
    (h0 : ∀ k (r : Fin 256), v3 (ix3 0 k r) = A ⟨r, by omega⟩ k)
    (h1 : ∀ k (r : Fin 256), v21 (ix3 0 k r) = A ⟨256 + r, by omega⟩ k)
    (h2 : ∀ k (r : Fin 256), v39 (ix3 0 k r) = A ⟨512 + r, by omega⟩ k)
    (h3 : ∀ k (r : Fin 256), v57 (ix3 0 k r) = A ⟨768 + r, by omega⟩ k)
    (k0 : ∀ k, g0 (ix2 0 k) = g k) (k1 : ∀ k, g1 (ix2 0 k) = g k) (k2 : ∀ k, g2 (ix2 0 k) = g k) (k3 : ∀ k, g3 (ix2 0 k) = g k)
    (r j : Fin 1024) :
    k0_pay52 (F := Ideal) (k0_pay50 v3 g0) (k0_pay51 v21 g1) v39 g2 v57 g3 w (ix2 r j)
      = ∑ k : Fin 512, rms (Ideal.ofBits .f32 0x44000000#32) (A r) g k * (w (ix2 k j) : EReal) := by
  have hr := r.isLt
  pointwise [k0_pay52, k0_pay50, k0_pay51]
  refine Finset.sum_congr rfl fun k _ => congrArg (fun a : EReal => a * _) ?_
  simp only [h0, h1, h2, h3, k0, k1, k2, k3]
  split_ifs
  all_goals exact congrArg (fun q => rms _ (A q) g k) (Fin.ext (by simp only; try omega))

set_option maxHeartbeats 2000000 in
/-- The rows entering the feed-forward half: the two projections added, normalized, and added to `x`. -/
theorem rows (P : FVec Ideal S1024x1024 .f32) (u0 u1 u2 u3 u4 u5 u6 u7 : Vec Ideal S1x512x128 .f32)
    (g0 g1 g2 g3 g4 g5 g6 g7 : Vec Ideal S1x512 .f32) (w : Vec Ideal S512x1024 .bf16) (x : Vec Ideal S1024x1024 .f32)
    (mg : Vec Ideal S1x1024 .f32) (B : Fin 1024 → Fin 512 → EReal) (g : Fin 512 → EReal)
    (h0 : ∀ k (r : Fin 128), u0 (ix3 0 k r) = B ⟨r, by omega⟩ k)
    (h1 : ∀ k (r : Fin 128), u1 (ix3 0 k r) = B ⟨128 + r, by omega⟩ k)
    (h2 : ∀ k (r : Fin 128), u2 (ix3 0 k r) = B ⟨256 + r, by omega⟩ k)
    (h3 : ∀ k (r : Fin 128), u3 (ix3 0 k r) = B ⟨384 + r, by omega⟩ k)
    (h4 : ∀ k (r : Fin 128), u4 (ix3 0 k r) = B ⟨512 + r, by omega⟩ k)
    (h5 : ∀ k (r : Fin 128), u5 (ix3 0 k r) = B ⟨640 + r, by omega⟩ k)
    (h6 : ∀ k (r : Fin 128), u6 (ix3 0 k r) = B ⟨768 + r, by omega⟩ k)
    (h7 : ∀ k (r : Fin 128), u7 (ix3 0 k r) = B ⟨896 + r, by omega⟩ k)
    (k0 : ∀ k, g0 (ix2 0 k) = g k) (k1 : ∀ k, g1 (ix2 0 k) = g k) (k2 : ∀ k, g2 (ix2 0 k) = g k) (k3 : ∀ k, g3 (ix2 0 k) = g k)
    (k4 : ∀ k, g4 (ix2 0 k) = g k) (k5 : ∀ k, g5 (ix2 0 k) = g k) (k6 : ∀ k, g6 (ix2 0 k) = g k) (k7 : ∀ k, g7 (ix2 0 k) = g k)
    (r j : Fin 1024) :
    k0_pay63 (F := Ideal) P (k0_pay53 u0 g0) (k0_pay54 u1 g1)
        (k0_pay57 (k0_pay55 u2) (k0_pay56 u2) (Scalar.ofBits .f32 0x44000000#32) g2) (k0_pay58 u3 g3)
        (k0_pay60 (k0_pay59 u4) g4) (k0_pay61 u5 g5) (k0_pay62 u6 g6) u7 g7 w x mg (ix2 r j)
      = x (ix2 r j) + rms (Ideal.ofBits .f32 0x44800000#32) (fun j => P (ix2 r j) +
          ∑ k : Fin 512, rms (Ideal.ofBits .f32 0x44000000#32) (B r) g k * (w (ix2 k j) : EReal)) (fun j => mg (ix2 0 j)) j := by
  have hr := r.isLt
  pointwise [k0_pay63, k0_pay53, k0_pay54, k0_pay55, k0_pay56, k0_pay57, k0_pay58, k0_pay59, k0_pay60, k0_pay61, k0_pay62]
  refine congrArg (fun a : EReal => _ + a) (congrArg₂ (fun a b : EReal => a * b) (congrArg₂ (fun a b : EReal => a * b) ?_
    (congrArg Ideal.rsqrt (congrArg₂ (fun a b : EReal => a + b) (congrArg₂ Ideal.div (Finset.sum_congr rfl fun q _ =>
      congrArg₂ (fun a b : EReal => a * b) ?_ ?_) rfl) rfl))) rfl)
  all_goals
    refine congrArg (fun a : EReal => _ + a) (Finset.sum_congr rfl fun k _ => congrArg (fun a : EReal => a * _) ?_)
    simp only [h0, h1, h2, h3, h4, h5, h6, h7, k0, k1, k2, k3, k4, k5, k6, k7]
    split_ifs
    all_goals exact congrArg (fun q => rms _ (B q) g k) (Fin.ext (by simp only; try omega))

end Cert.MixFfnIdeal.Pay
end
-- ==== Proof.MixMid.lean ====
module

public import proofs.«01_k».proof.Proof.MixHid
public import proofs.«01_k».proof.Proof.MixPay
public import Idealize.ShloMosaic.Lib.Pipeline.ValueKit
public import Idealize.ShloMosaic.Lib.Pointwise

@[expose] public section
set_option maxRecDepth 16384
noncomputable section
namespace Cert.MixFfnIdeal.Rows
open Cert.MixFfnIdeal Cert.MixFfnIdeal.Gen Cert.FfnRow
open Idealize.ShloMosaic Idealize.ShloMosaic.TcCoe Idealize.SL.Sem
open Idealize.ShloMosaic.Pipeline (Dat)

/-- One tile of 256 tokens of the first head group. -/
theorem tileA (x1 : Vec Ideal S4x512x256 .f32) (o : ℕ) (inb) (ho : o < 4) (k : Fin 512) (r : Fin 256) :
    View.ld x1 (Rect.unit (s := S4x512x256) ![o, 0, 0] ![1, 512, 256] inb) (ix3 0 k r) = x1 (ix3 ⟨o, ho⟩ k r) := by
  refine congrArg x1 (funext fun q => Fin.ext ?_)
  match q with
  | 0 => change o + 1 * 0 = o; omega
  | 1 => change 0 + 1 * (k : ℕ) = k; omega
  | 2 => change 0 + 1 * (r : ℕ) = r; omega

/-- One tile of 128 tokens of the second head group. -/
theorem tileB (x2 : Vec Ideal S8x512x128 .f32) (o : ℕ) (inb) (ho : o < 8) (k : Fin 512) (r : Fin 128) :
    View.ld x2 (Rect.unit (s := S8x512x128) ![o, 0, 0] ![1, 512, 128] inb) (ix3 0 k r) = x2 (ix3 ⟨o, ho⟩ k r) := by
  refine congrArg x2 (funext fun q => Fin.ext ?_)
  match q with
  | 0 => change o + 1 * 0 = o; omega
  | 1 => change 0 + 1 * (k : ℕ) = k; omega
  | 2 => change 0 + 1 * (r : ℕ) = r; omega

/-- Half of the projection's weights. -/
theorem halfW (x5 : Vec Ideal S1024x1024 .bf16) (o : ℕ) (inb) (ho : o ≤ 512) (k : Fin 512) (j : Fin 1024) :
    View.ld x5 (Rect.unit (s := S1024x1024) ![o, 0] ![512, 1024] inb) (ix2 k j) = x5 (ix2 ⟨o + k, by omega⟩ j) := by
  refine congrArg x5 (funext fun q => Fin.ext ?_)
  match q with
  | 0 => change o + 1 * (k : ℕ) = o + k; omega
  | 1 => change 0 + 1 * (j : ℕ) = j; omega

/-- The first head group's column of token `r`. -/
def colA (x1 : Vec Ideal S4x512x256 .f32) (r : Fin 1024) (k : Fin 512) : EReal :=
  x1 (ix3 ⟨r / 256, by omega⟩ k ⟨r % 256, by omega⟩)
/-- The second head group's column of token `r`. -/
def colB (x2 : Vec Ideal S8x512x128 .f32) (r : Fin 1024) (k : Fin 512) : EReal :=
  x2 (ix3 ⟨r / 128, by omega⟩ k ⟨r % 128, by omega⟩)

theorem tileA' (x1 : Vec Ideal S4x512x256 .f32) (o : ℕ) (inb) (ho : o < 4) (n : ℕ) (hn : n = 256 * o) (k : Fin 512) (r : Fin 256) :
    View.ld x1 (Rect.unit (s := S4x512x256) ![o, 0, 0] ![1, 512, 256] inb) (ix3 0 k r) = colA x1 ⟨n + r, by omega⟩ k := by
  rw [tileA x1 o inb ho]
  unfold colA
  refine congrArg x1 (congrArg₂ (fun a b => ix3 a k b) (Fin.ext ?_) (Fin.ext ?_)) <;> simp only <;> omega

theorem tileB' (x2 : Vec Ideal S8x512x128 .f32) (o : ℕ) (inb) (ho : o < 8) (n : ℕ) (hn : n = 128 * o) (k : Fin 512) (r : Fin 128) :
    View.ld x2 (Rect.unit (s := S8x512x128) ![o, 0, 0] ![1, 512, 128] inb) (ix3 0 k r) = colB x2 ⟨n + r, by omega⟩ k := by
  rw [tileB x2 o inb ho]
  unfold colB
  refine congrArg x2 (congrArg₂ (fun a b => ix3 a k b) (Fin.ext ?_) (Fin.ext ?_)) <;> simp only <;> omega

/-- The rows the feed-forward half reads are the mixer's step on the blocks. -/
theorem mid_at (x0 : Vec Ideal S1024x1024 .f32) (x1 : Vec Ideal S4x512x256 .f32) (x2 : Vec Ideal S8x512x128 .f32) (x3 x4 : Vec Ideal S1x512 .f32)
    (x5 : Vec Ideal S1024x1024 .bf16) (x6 : Vec Ideal S1x1024 .f32) (r j : Fin 1024) :
    mid x0 x1 x2 x3 x4 x5 x6 (ix2 r j) = mix (fun k => x0 (ix2 r k)) (colA x1 r) (colB x2 r) (fun k => x3 (ix2 0 k)) (fun k => x4 (ix2 0 k))
      (fun k j => x5 (ix2 k j)) (fun k => x6 (ix2 0 k)) j := by
  unfold mid
  refine (Pay.rows _ _ _ _ _ _ _ _ _ x4 x4 x4 x4 x4 x4 x4 x4 _ x0 x6 (colB x2) (fun k => x4 (ix2 0 k))
    (fun k r => (tileB' x2 0 _ (by decide) 0 rfl k r).trans (by simp only [Nat.zero_add]))
    (tileB' x2 1 _ (by decide) 128 rfl) (tileB' x2 2 _ (by decide) 256 rfl) (tileB' x2 3 _ (by decide) 384 rfl)
    (tileB' x2 4 _ (by decide) 512 rfl) (tileB' x2 5 _ (by decide) 640 rfl) (tileB' x2 6 _ (by decide) 768 rfl) (tileB' x2 7 _ (by decide) 896 rfl)
    (fun _ => rfl) (fun _ => rfl) (fun _ => rfl) (fun _ => rfl) (fun _ => rfl) (fun _ => rfl) (fun _ => rfl) (fun _ => rfl) r j).trans ?_
  unfold mix
  refine congrArg (fun a : EReal => x0 (ix2 r j) + a) (congrArg (fun F => rms _ F (fun k => x6 (ix2 0 k)) j) (funext fun j => ?_))
  refine congrArg₂ (fun a b : EReal => a + b) ?_ ?_
  · refine (Pay.first _ _ _ _ x3 x3 x3 x3 _ (colA x1) (fun k => x3 (ix2 0 k))
      (fun k r => (tileA' x1 0 _ (by decide) 0 rfl k r).trans (by simp only [Nat.zero_add]))
      (tileA' x1 1 _ (by decide) 256 rfl) (tileA' x1 2 _ (by decide) 512 rfl) (tileA' x1 3 _ (by decide) 768 rfl)
      (fun _ => rfl) (fun _ => rfl) (fun _ => rfl) (fun _ => rfl) r j).trans ?_
    refine Finset.sum_congr rfl fun k _ => congrArg₂ (fun a b : EReal => a * b) rfl ?_
    refine (halfW x5 0 _ (by decide) k j).trans ?_
    simp only [Nat.zero_add]
  · exact Finset.sum_congr rfl fun k _ => congrArg₂ (fun a b : EReal => a * b) rfl (halfW x5 512 _ (by decide) k j)

end Cert.MixFfnIdeal.Rows
end
-- ==== Proof.MixRead.lean ====
module

public import proofs.«01_k».proof.Proof.Gen.MixFfnRefIdeal.Run
public import proofs.«01_k».proof.Proof.FfnRow
public import Idealize.ShloMosaic.Lib.Pipeline.Value
public import Idealize.ShloMosaic.Lib.Pipeline.ValueKit
public import Idealize.ShloMosaic.Lib.Pointwise
public import Idealize.ShloMosaic.Lib.Claim

@[expose] public section
set_option maxRecDepth 16384
noncomputable section
namespace Cert.MixFfnRefIdeal.Read
open Cert.MixFfnRefIdeal Cert.MixFfnRefIdeal.Gen Cert.FfnRow
open Idealize.ShloMosaic Idealize.ShloMosaic.TcCoe Idealize.SL.Sem
open Idealize.ShloMosaic.Pipeline (Dat)

/-- A head group's rows over their root mean squares, times the gains. -/
def NH (x : FVec Ideal S2x8192x512 .f32) (g : FVec Ideal S512 .f32) : FVec Ideal S2x8192x512 .f32 :=
  mulf (F := Ideal) (mulf (F := Ideal) x (broadcastInDim S2x8192x512 ![0, 1, 2] bcast_S2x8192x1_S2x8192x512_0_1_2 (Host.rsqrt (F := Ideal) (addf (F := Ideal) (Host.divf (F := Ideal) (broadcastInDim S2x8192x1 ![0, 1] bcast_S2x8192_S2x8192x1_0_1 (Host.reduceAdd (F := Ideal) (mulf (F := Ideal) x x) (constant (F := Ideal) S_ .f32 0x00000000#32) reducesTo_S2x8192x512_S2x8192_d2 h_S_)) (broadcastInDim S2x8192x1 ![] bcast_S_S2x8192x1 (constant (F := Ideal) S_ .f32 0x44000000#32))) (broadcastInDim S2x8192x1 ![] bcast_S_S2x8192x1 (constant (F := Ideal) S_ .f32 0x358637BD#32)))))) (broadcastInDim S2x8192x512 ![0, 1, 2] bcast_S1x1x512_S2x8192x512_0_1_2 (broadcastInDim S1x1x512 ![2] bcast_S512_S1x1x512_2 g))
/-- The layer's rows over their root mean squares, times the gains. -/
def NR (x : FVec Ideal S2x8192x1024 .f32) (g : FVec Ideal S1024 .f32) : FVec Ideal S2x8192x1024 .f32 :=
  mulf (F := Ideal) (mulf (F := Ideal) x (broadcastInDim S2x8192x1024 ![0, 1, 2] bcast_S2x8192x1_S2x8192x1024_0_1_2 (Host.rsqrt (F := Ideal) (addf (F := Ideal) (Host.divf (F := Ideal) (broadcastInDim S2x8192x1 ![0, 1] bcast_S2x8192_S2x8192x1_0_1 (Host.reduceAdd (F := Ideal) (mulf (F := Ideal) x x) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))
/-- The two head groups, each normalized, projected together. -/
def PROJ (a b : FVec Ideal S2x8192x512 .f32) (ga gb : FVec Ideal S512 .f32) (w : FVec Ideal S1024x1024 .f32) : FVec Ideal S2x8192x1024 .f32 :=
  Host.dotGeneral (F := Ideal) dot_S2x8192x1024_S1024x1024_S2x8192x1024_2_0_01_1_n_n none (concatenate S2x8192x1024 2 [⟨S2x8192x512, NH a ga⟩, ⟨S2x8192x512, NH b gb⟩] concatenates_S2x8192x512_S2x8192x512_S2x8192x1024_d2) w
/-- The rows after the mixer. -/
def MID (x : FVec Ideal S2x8192x1024 .f32) (a b : FVec Ideal S2x8192x512 .f32) (ga gb : FVec Ideal S512 .f32) (w : FVec Ideal S1024x1024 .f32) (mg : FVec Ideal S1024 .f32) : FVec Ideal S2x8192x1024 .f32 :=
  addf (F := Ideal) x (NR (PROJ a b ga gb w) mg)
/-- A product with one of the hidden layer's input weights. -/
def UP (x : FVec Ideal S2x8192x1024 .f32) (w : FVec Ideal S1024x2816 .f32) : FVec Ideal S2x8192x2816 .f32 :=
  Host.dotGeneral (F := Ideal) dot_S2x8192x1024_S1024x2816_S2x8192x2816_2_0_01_1_n_n none x w
/-- The hidden layer, of its two products. -/
def ACT (p q : FVec Ideal S2x8192x2816 .f32) : FVec Ideal S2x8192x2816 .f32 :=
  mulf (F := Ideal) (mulf (F := Ideal) p (Host.divf (F := Ideal) (broadcastInDim S2x8192x2816 ![] bcast_S_S2x8192x2816 (constant (F := Ideal) S_ .f32 0x3F800000#32)) (addf (F := Ideal) (broadcastInDim S2x8192x2816 ![] bcast_S_S2x8192x2816 (constant (F := Ideal) S_ .f32 0x3F800000#32)) (Host.exp (F := Ideal) (Host.negf (F := Ideal) p))))) q
/-- The hidden layer's product with the output weights. -/
def DOWN (h : FVec Ideal S2x8192x2816 .f32) (w : FVec Ideal S2816x1024 .f32) : FVec Ideal S2x8192x1024 .f32 :=
  Host.dotGeneral (F := Ideal) dot_S2x8192x2816_S2816x1024_S2x8192x1024_2_0_01_1_n_n none h w
/-- The feed-forward half of the layer. -/
def FFN (x : FVec Ideal S2x8192x1024 .f32) (pg : FVec Ideal S1024 .f32) (wg wu : FVec Ideal S1024x2816 .f32) (wd : FVec Ideal S2816x1024 .f32) (qg : FVec Ideal S1024 .f32) : FVec Ideal S16384x1024 .f32 :=
  shapeCast _ (addf (F := Ideal) x (mulf (F := Ideal) (broadcastInDim S2x8192x1024 ![] bcast_S_S2x8192x1024 (constant (F := Ideal) S_ .f32 0x3F000000#32)) (NR (DOWN (ACT (UP (NR x pg) wg) (UP (NR x pg) wu)) wd) qg))) shapeCasts_S2x8192x1024_S16384x1024

theorem NH_at (x : FVec Ideal S2x8192x512 .f32) (g : FVec Ideal S512 .f32) (b : Fin 2) (n : Fin 8192) (j : Fin 512) :
    NH x g (ix3 b n j) = rms (Ideal.ofBits .f32 0x44000000#32) (fun k => (x (ix3 b n k) : EReal)) (fun k => g (ix1 k)) j := by
  pointwise [NH]
  rfl

theorem NR_at (x : FVec Ideal S2x8192x1024 .f32) (g : FVec Ideal S1024 .f32) (b : Fin 2) (n : Fin 8192) (j : Fin 1024) :
    NR x g (ix3 b n j) = rms (Ideal.ofBits .f32 0x44800000#32) (fun k => (x (ix3 b n k) : EReal)) (fun k => g (ix1 k)) j := by
  pointwise [NR]
  rfl

theorem UP_at (x : FVec Ideal S2x8192x1024 .f32) (w : FVec Ideal S1024x2816 .f32) (b : Fin 2) (n : Fin 8192) (f : Fin 2816) :
    UP x w (ix3 b n f) = ∑ k : Fin 1024, (x (ix3 b n k) : EReal) * w (ix2 k f) := by
  pointwise [UP]

theorem DOWN_at (h : FVec Ideal S2x8192x2816 .f32) (w : FVec Ideal S2816x1024 .f32) (b : Fin 2) (n : Fin 8192) (j : Fin 1024) :
    DOWN h w (ix3 b n j) = ∑ f : Fin 2816, (h (ix3 b n f) : EReal) * w (ix2 f j) := by
  pointwise [DOWN]

theorem ACT_at (p q : FVec Ideal S2x8192x2816 .f32) (b : Fin 2) (n : Fin 8192) (f : Fin 2816) :
    ACT p q (ix3 b n f) = (p (ix3 b n f) : EReal) * Ideal.logistic (p (ix3 b n f)) * q (ix3 b n f) := by
  pointwise [ACT]
  rfl

theorem PROJ_at (a b : FVec Ideal S2x8192x512 .f32) (ga gb : FVec Ideal S512 .f32) (w : FVec Ideal S1024x1024 .f32) (i : Fin 2) (n : Fin 8192) (j : Fin 1024) :
    PROJ a b ga gb w (ix3 i n j) =
      ∑ k : Fin 512, rms (Ideal.ofBits .f32 0x44000000#32) (fun k => (a (ix3 i n k) : EReal)) (fun k => ga (ix1 k)) k * w (ix2 ⟨k, by omega⟩ j)
      + ∑ k : Fin 512, rms (Ideal.ofBits .f32 0x44000000#32) (fun k => (b (ix3 i n k) : EReal)) (fun k => gb (ix1 k)) k * w (ix2 ⟨512 + k, by omega⟩ j) := by
  pointwise [PROJ]
  simp only [NH_at]

theorem MID_at (x : FVec Ideal S2x8192x1024 .f32) (a b : FVec Ideal S2x8192x512 .f32) (ga gb : FVec Ideal S512 .f32) (w : FVec Ideal S1024x1024 .f32) (mg : FVec Ideal S1024 .f32)
    (i : Fin 2) (n : Fin 8192) (j : Fin 1024) :
    MID x a b ga gb w mg (ix3 i n j) = mix (fun k => (x (ix3 i n k) : EReal)) (fun k => a (ix3 i n k)) (fun k => b (ix3 i n k))
      (fun k => ga (ix1 k)) (fun k => gb (ix1 k)) (fun k j => w (ix2 k j)) (fun k => mg (ix1 k)) j := by
  pointwise [MID]
  rw [NR_at]
  simp only [PROJ_at]
  rfl

theorem FFN_at (x : FVec Ideal S2x8192x1024 .f32) (pg : FVec Ideal S1024 .f32) (wg wu : FVec Ideal S1024x2816 .f32) (wd : FVec Ideal S2816x1024 .f32) (qg : FVec Ideal S1024 .f32)
    (r : Fin 16384) (j : Fin 1024) :
    FFN x pg wg wu wd qg (ix2 r j) = ffn (fun k => (x (ix3 ⟨r / 8192, by omega⟩ ⟨r % 8192, by omega⟩ k) : EReal)) (fun k => pg (ix1 k))
      (fun k f => wg (ix2 k f)) (fun k f => wu (ix2 k f)) (fun f j => wd (ix2 f j)) (fun k => qg (ix1 k)) j := by
  pointwise [FFN]
  rw [NR_at]
  simp only [DOWN_at, ACT_at, UP_at, NR_at]
  rfl

end Cert.MixFfnRefIdeal.Read
end
-- ==== Proof.MixX.lean ====
module

public import proofs.«01_k».proof.Proof.MixMid
public import proofs.«01_k».proof.Proof.MixHost
public import proofs.«01_k».proof.Proof.MixRead

@[expose] public section
set_option maxRecDepth 16384
noncomputable section
namespace Cert.MixFfnIdeal.Block
open Cert.MixFfnIdeal Cert.MixFfnIdeal.Gen Cert.FfnRow Cert.MixFfnIdeal.Rows
open Idealize.ShloMosaic Idealize.ShloMosaic.TcCoe Idealize.SL.Sem

variable (m : (ℓ : Loc nD τ sig) → Buf (Elt Ideal) ℓ) (c : Dev nD)

/-- The blocks the windows read at a grid point. -/
theorem idx : ∀ t : Fin cfg0.N, win0_0.index t = ![t.val, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

/-- The rows after the mixer, as the reference has them. -/
abbrev M : FVec Ideal Cert.MixFfnRefIdeal.S2x8192x1024 .f32 :=
  Cert.MixFfnRefIdeal.Read.MID (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- Tile `t`'s rows after the mixer. -/
def X (t : ℕ) (ht : t < 16) : FVec Ideal S1024x1024 .f32 := fun i =>
  M m c (ix3 ⟨(t * 1024 + (i 0 : ℕ)) / 8192, by have : (i 0 : ℕ) < 1024 := (i 0).isLt; omega⟩ ⟨(t * 1024 + (i 0 : ℕ)) % 8192, by omega⟩
    ⟨i 1, by have := (i 1).isLt; simpa using this⟩)

set_option maxHeartbeats 1000000 in
theorem mid_X (t : Fin cfg0.N) (ht : t.val < 16) :
    mid (iblk m c 0 t) (iblk m c 1 t) (iblk m c 2 t) (iblk m c 3 t) (iblk m c 4 t) (iblk m c 5 t) (iblk m c 6 t) = X m c t.val ht := by
  obtain ⟨i0, i1, i2, i3, i4, i5, i6, i7, i8, i9⟩ := idx t
  funext i
  have hi : i = ix2 ⟨i 0, by have := (i 0).isLt; simpa using this⟩ ⟨i 1, by have := (i 1).isLt; simpa using this⟩ := by
    funext k; match k with | 0 => rfl | 1 => rfl
  generalize hr : (⟨i 0, by have := (i 0).isLt; simpa using this⟩ : Fin 1024) = r at hi
  generalize hj : (⟨i 1, by have := (i 1).isLt; simpa using this⟩ : Fin 1024) = j at hi
  subst hi
  have hr := r.isLt
  refine (mid_at _ _ _ _ _ _ _ r j).trans ?_
  refine Eq.trans ?_ (Cert.MixFfnRefIdeal.Read.MID_at _ _ _ _ _ _ _ ⟨(t.val * 1024 + r.val) / 8192, by omega⟩ ⟨(t.val * 1024 + r.val) % 8192, by omega⟩ j).symm
  have e0 : (fun k => (iblk m c 0 t (ix2 r k) : EReal)) = fun k => m ((c : Thread nD τ).loc main_arg0) (ix3 ⟨(t.val * 1024 + r.val) / 8192, by omega⟩ ⟨(t.val * 1024 + r.val) % 8192, by omega⟩ k) := by
    funext k
    refine Eq.trans ?_ (HostIn.x_at m c ⟨t.val * 1024 + r.val, by omega⟩ k)
    blk_ext [iblk, i0]
  have e1 : colA (iblk m c 1 t) r = fun k => m ((c : Thread nD τ).loc main_arg1) (ix3 ⟨(t.val * 1024 + r.val) / 8192, by omega⟩ ⟨(t.val * 1024 + r.val) % 8192, by omega⟩ k) := by
    funext k
    unfold colA
    refine Eq.trans (b := V m c main_v1 (ix3 ⟨t.val * 4 + r.val / 256, by omega⟩ k ⟨r.val % 256, by omega⟩)) ?_ ((HostIn.a_at m c _ _ _).trans ?_)
    · blk_ext [iblk, i1]
    · refine congrArg (m ((c : Thread nD τ).loc main_arg1)) (congrArg₂ (fun a b => ix3 a b k) (Fin.ext ?_) (Fin.ext ?_)) <;> simp only <;> omega
  have e2 : colB (iblk m c 2 t) r = fun k => m ((c : Thread nD τ).loc main_arg2) (ix3 ⟨(t.val * 1024 + r.val) / 8192, by omega⟩ ⟨(t.val * 1024 + r.val) % 8192, by omega⟩ k) := by
    funext k
    unfold colB
    refine Eq.trans (b := V m c main_v3 (ix3 ⟨t.val * 8 + r.val / 128, by omega⟩ k ⟨r.val % 128, by omega⟩)) ?_ ((HostIn.b_at m c _ _ _).trans ?_)
    · blk_ext [iblk, i2]
    · refine congrArg (m ((c : Thread nD τ).loc main_arg2)) (congrArg₂ (fun a b => ix3 a b k) (Fin.ext ?_) (Fin.ext ?_)) <;> simp only <;> omega
  have e3 : (fun k => (iblk m c 3 t (ix2 0 k) : EReal)) = fun k => m ((c : Thread nD τ).loc main_arg3) (ix1 k) := by
    funext k
    refine Eq.trans ?_ (HostIn.ga_at m c k)
    blk_ext [iblk, i3]
  have e4 : (fun k => (iblk m c 4 t (ix2 0 k) : EReal)) = fun k => m ((c : Thread nD τ).loc main_arg4) (ix1 k) := by
    funext k
    refine Eq.trans ?_ (HostIn.gb_at m c k)
    blk_ext [iblk, i4]
  have e5 : (fun k j => (iblk m c 5 t (ix2 k j) : EReal)) = fun k j => m ((c : Thread nD τ).loc main_arg5) (ix2 k j) := by
    funext k j
    refine Eq.trans ?_ (HostIn.w_at m c k j)
    blk_ext [iblk, i5]
  have e6 : (fun k => (iblk m c 6 t (ix2 0 k) : EReal)) = fun k => m ((c : Thread nD τ).loc main_arg6) (ix1 k) := by
    funext k
    refine Eq.trans ?_ (HostIn.mg_at m c k)
    blk_ext [iblk, i6]
  rw [e0, e1, e2, e3, e4, e5, e6]

end Cert.MixFfnIdeal.Block
end
-- ==== Proof.MixOuts.lean ====
module

public import proofs.«01_k».proof.Proof.MixOutA
public import proofs.«01_k».proof.Proof.MixOutB
public import proofs.«01_k».proof.Proof.MixCarry
public import proofs.«01_k».proof.Proof.MixX

@[expose] public section
set_option maxRecDepth 16384
noncomputable section
namespace Cert.MixFfnIdeal.Block
open Cert.MixFfnIdeal Cert.MixFfnIdeal.Gen Cert.FfnRow Cert.MixFfnIdeal.Rows
open Idealize.ShloMosaic Idealize.ShloMosaic.TcCoe Idealize.SL.Sem

variable (m : (ℓ : Loc nD τ sig) → Buf (Elt Ideal) ℓ) (c : Dev nD)

set_option maxHeartbeats 1000000 in
/-- What a point leaves in the output's block: the feed-forward half of its rows after the mixer. -/
theorem outs (t : Fin cfg0.N) (ht : t.val < 16) (y : S1024x1024.Idx) :
    (outsAt0 m c t.val t.isLt).1 y = FF (X m c t.val ht) (iblk m c 7 t) (G m c) (U m c) (D m c) (iblk m c 8 t)
      ⟨y 0, by have := (y 0).isLt; simpa using this⟩ ⟨y 1, by have := (y 1).isLt; simpa using this⟩ := by
  have hX := mid_X m c t ht
  by_cases h0 : t.val % 16 = 0
  · rw [outsAt0_A m c t h0]
    dsimp only
    exact outA c t ((hcond0_0 t).mpr h0) (iblk m c 0 t) (iblk m c 1 t) (iblk m c 2 t) (iblk m c 3 t) (iblk m c 4 t) (iblk m c 5 t)
      (iblk m c 6 t) (iblk m c 7 t) (iblk m c 8 t) (G m c) (U m c) (D m c) (V m c main_v10) (V m c main_v11) (V m c main_v12) (X m c t.val ht) hX
      (gateG m c t _ _ _ _ _ _ _ _ _ _) (upU m c t _ _ _ _ _ _ _ _ _ _) (downD m c t _ _ _ _ _ _ _ _ _ _) y
  · rw [outsAt0_B m c t h0, carried]
    dsimp only
    exact outB c t (fun h => h0 ((hcond0_0 t).mp h)) (iblk m c 0 t) (iblk m c 1 t) (iblk m c 2 t) (iblk m c 3 t) (iblk m c 4 t) (iblk m c 5 t)
      (iblk m c 6 t) (iblk m c 7 t) (iblk m c 8 t) (G m c) (U m c) (D m c) (V m c main_v10) (V m c main_v11) (V m c main_v12) (X m c t.val ht) hX y

end Cert.MixFfnIdeal.Block
end
-- ==== Proof.MixFinal.lean ====
module

public import proofs.«01_k».proof.Proof.MixOuts

@[expose] public section
set_option maxRecDepth 16384
noncomputable section
namespace Cert.MixFfnIdeal.Block
open Cert.MixFfnIdeal Cert.MixFfnIdeal.Gen Cert.FfnRow Cert.MixFfnIdeal.Rows
open Idealize.ShloMosaic Idealize.ShloMosaic.TcCoe Idealize.SL.Sem

variable (m : (ℓ : Loc nD τ sig) → Buf (Elt Ideal) ℓ) (c : Dev nD)

set_option maxHeartbeats 1000000 in
/-- The kernel's result array is the reference's. -/
theorem final : (dats m 0 c).arrAt 9 cfg0.N = Cert.MixFfnRefIdeal.Read.FFN (M m c) (m ((c : Thread nD τ).loc main_arg7))
      (m ((c : Thread nD τ).loc main_arg8)) (m ((c : Thread nD τ).loc main_arg9)) (m ((c : Thread nD τ).loc main_arg10)) (m ((c : Thread nD τ).loc main_arg11)) := by
  refine (dats m 0 c).arrAt_eq_of_covers 9 _ (by decide +kernel) fun t _ y => ?_
  blk_simp
  rw [after0_9]
  have hN : cfg0.N = 16 := N_0
  have ht : t.val < 16 := lt_of_lt_of_eq t.isLt hN
  have e := outs m c t ht y
  obtain ⟨i0, i1, i2, i3, i4, i5, i6, i7, i8, i9⟩ := idx t
  have y0 : (y 0 : ℕ) < 1024 := (y 0).isLt
  have y1 : (y 1 : ℕ) < 1024 := (y 1).isLt
  refine e.trans (Eq.trans ?_ ((Cert.MixFfnRefIdeal.Read.FFN_at (M m c) (m ((c : Thread nD τ).loc main_arg7)) (m ((c : Thread nD τ).loc main_arg8)) (m ((c : Thread nD τ).loc main_arg9)) (m ((c : Thread nD τ).loc main_arg10)) (m ((c : Thread nD τ).loc main_arg11))
    ⟨t.val * 1024 + (y 0 : ℕ), by omega⟩ ⟨y 1, y1⟩).symm.trans ?_))
  · have e7 : (fun k => (iblk m c 7 t (ix2 0 k) : EReal)) = fun k => m ((c : Thread nD τ).loc main_arg7) (ix1 k) := by
      funext k
      refine Eq.trans ?_ (HostIn.pg_at m c k)
      blk_ext [iblk, i7]
    have e8 : (fun k => (iblk m c 8 t (ix2 0 k) : EReal)) = fun k => m ((c : Thread nD τ).loc main_arg11) (ix1 k) := by
      funext k
      refine Eq.trans ?_ (HostIn.qg_at m c k)
      blk_ext [iblk, i8]
    unfold FF
    rw [e7, e8]
    rfl
  · blk_ext [i9]
end Cert.MixFfnIdeal.Block
end
-- ==== Proof.MixClaim.lean ====
module

public import proofs.«01_k».proof.Defs
public import proofs.«01_k».proof.Proof.MixFinal
public import proofs.«01_k».proof.Proof.Gen.MixFfnRefIdeal.Run

@[expose] public section
set_option maxRecDepth 16384
noncomputable section
namespace Cert.MixClaim
open Idealize.ShloMosaic Idealize.ShloMosaic.TcCoe Idealize.SL.Sem

/-- The facts of the programs, as the generated modules prove them. -/
local instance : Cert.MixFfnIdeal.Facts := Cert.MixFfnIdeal.Gen.facts
local instance : Cert.MixFfnRefIdeal.Facts := Cert.MixFfnRefIdeal.Gen.facts

/-- The idealized kernel's result is the idealized reference's. -/
theorem algebraic : Cert.algebraic_MixFfnIdeal_MixFfnRefIdeal := by
  intro m ρ m' ρ' _ hagree
  refine ⟨_, Cert.MixFfnIdeal.Value.run_blocks m ρ, ?_⟩
  refine (θ_run Cert.MixFfnRefIdeal.defs _ _).mono (fun _ h c => ⟨(h c).1.trans ?_, (h c).2⟩) (Cert.MixFfnRefIdeal.Value.run (F := Ideal) m' ρ')
  rw [Cert.MixFfnIdeal.Block.final m c]
  obtain ⟨a0, a1, a2, a3, a4, a5, a6, a7, a8, a9, a10, a11⟩ := hagree c
  unfold Cert.MixFfnIdeal.Block.M
  rw [← a0, ← a1, ← a2, ← a3, ← a4, ← a5, ← a6, ← a7, ← a8, ← a9, ← a10, ← a11]
  rfl
end Cert.MixClaim
end
-- ==== Proof.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.FfnClaim
public import proofs.«01_k».proof.Proof.Gen.MixFfn
public import proofs.«01_k».proof.Proof.Gen.MixFfn.Frame
public import proofs.«01_k».proof.Proof.Gen.MixFfnIdeal
public import proofs.«01_k».proof.Proof.Gen.MixFfnIdeal.Frame
public import proofs.«01_k».proof.Proof.Gen.MixFfnIdeal.Value
public import proofs.«01_k».proof.Proof.Gen.MixFfnRefIdeal
public import proofs.«01_k».proof.Proof.Gen.MixFfnRefIdeal.Run
public import proofs.«01_k».proof.Proof.MixClaim
public import Idealize.ShloMosaic.Lib.Quiescent

@[expose] public section

noncomputable section

namespace Cert.Proof

open Idealize.ShloMosaic Idealize.SL.Sem

theorem claim : Cert.Claim := ⟨Cert.Ffn.Gen.facts, Cert.FfnIdeal.Gen.facts, Cert.FfnRefIdeal.Gen.facts,
  Cert.MixFfn.Gen.facts, Cert.MixFfnIdeal.Gen.facts, Cert.MixFfnRefIdeal.Gen.facts,
  fun m ρ _ => Cert.Ffn.Gen.frame m ρ,
  fun m ρ _ => Cert.FfnIdeal.Gen.frame m ρ,
  (fun m ρ _ => (θ_run Cert.FfnRefIdeal.defs _ _).mono
    (fun r h => ⟨fun c => (h c).2, Idealize.ShloMosaic.sem_eq_zero_of_no_sems (by decide) r.2⟩)
    (Cert.FfnRefIdeal.Value.run (F := Ideal) m ρ)),
  fun m ρ _ => Cert.MixFfn.Gen.frame m ρ,
  fun m ρ _ => Cert.MixFfnIdeal.Gen.frame m ρ,
  (fun m ρ _ => (θ_run Cert.MixFfnRefIdeal.defs _ _).mono
    (fun r h => ⟨fun c => (h c).2, Idealize.ShloMosaic.sem_eq_zero_of_no_sems (by decide) r.2⟩)
    (Cert.MixFfnRefIdeal.Value.run (F := Ideal) m ρ)),
  trivial, Cert.FfnClaim.algebraic, trivial, Cert.MixClaim.algebraic⟩

end Cert.Proof

end
